-- ==== Defs.lean ====
def Pre_Kernel [hPre_bias_is_finite : Cert.Pre_bias_is_finite.Facts] (m : (ℓ : Loc Cert.Kernel.nD Cert.Kernel.τ Cert.Kernel.sig) → Buf (Elt Bits) ℓ) : Prop :=
  ∀ c : Dev Cert.Kernel.nD,
    (Cert.Pre_bias_is_finite.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_bias_is_finite : Cert.Pre_bias_is_finite.Facts] (m : (ℓ : Loc Cert.KernelIdeal.nD Cert.KernelIdeal.τ Cert.KernelIdeal.sig) → Buf (Elt Ideal) ℓ) : Prop :=
  ∀ c : Dev Cert.KernelIdeal.nD,
    (Cert.Pre_bias_is_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_bias_is_finite : Cert.Pre_bias_is_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bias_is_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_bias_is_finite : Cert.Pre_bias_is_finite.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_bias_is_finite : Cert.Pre_bias_is_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] [hPre_bias_is_finite : Cert.Pre_bias_is_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_bias_is_finite : Cert.Pre_bias_is_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_bias_is_finite : Cert.Pre_bias_is_finite.Facts),
    quiescent_Kernel (hKernel := hKernel) (hPre_bias_is_finite := hPre_bias_is_finite)
    ∧ quiescent_KernelIdeal (hKernelIdeal := hKernelIdeal) (hPre_bias_is_finite := hPre_bias_is_finite)
    ∧ quiescent_ReferenceIdeal (hReferenceIdeal := hReferenceIdeal) (hPre_bias_is_finite := hPre_bias_is_finite)
    ∧ preserves_Kernel_KernelIdeal
    ∧ algebraic_KernelIdeal_ReferenceIdeal (hKernelIdeal := hKernelIdeal) (hReferenceIdeal := hReferenceIdeal) (hPre_bias_is_finite := hPre_bias_is_finite)
-- ==== Pre_bias_is_finite.lean ====
abbrev S100000x128 : Shape := ⟨2, ![100000, 128]⟩
abbrev S50000x128 : Shape := ⟨2, ![50000, 128]⟩
abbrev S100000 : Shape := ⟨1, ![100000]⟩
abbrev S50000 : Shape := ⟨1, ![50000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel

variable [Facts]

def fn {F : FTy → Type} [FloatOps F] (main_arg0 : FVec F S100000x128 .f32) (main_arg1 : FVec F S50000x128 .f32) (main_arg2 : IVec S100000 32) (main_arg3 : IVec S50000 32) (main_arg4 : FVec F S128x64 .f32) (main_arg5 : FVec F S64 .f32) (main_arg6 : FVec F S64x1 .f32) (main_arg7 : FVec F S1 .f32) : IVec S_ 1 :=
  let main_v0 : FVec F S1 .f32 := Host.absf main_arg7
  let main_cst : FVec F S_ .f32 := constant S_ .f32 0x7F800000#32
  let main_v1 : FVec F S1 .f32 := broadcastInDim S1 ![] bcast_S_S1 main_cst
  let main_v2 : IVec S1 1 := cmpf .olt main_v0 main_v1
  let main_c : IVec S_ 1 := constantI S_ 1 1#1
  let main_v3 : IVec S_ 1 := (fun x v => Host.reduce IntOp.andi x v reducesTo_S1_S_d0 h_S_) main_v2 main_c
  main_v3
-- ==== Kernel.lean ====
abbrev S100000x128 : Shape := ⟨2, ![100000, 128]⟩
abbrev S50000x128 : Shape := ⟨2, ![50000, 128]⟩
abbrev S100000 : Shape := ⟨1, ![100000]⟩
abbrev S50000 : Shape := ⟨1, ![50000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S4x1x25000 : Shape := ⟨3, ![4, 1, 25000]⟩
abbrev S1x64 : Shape := ⟨2, ![1, 64]⟩
abbrev S256x128 : Shape := ⟨2, ![256, 128]⟩
abbrev S25000x128 : Shape := ⟨2, ![25000, 128]⟩
abbrev S1x1x25000 : Shape := ⟨3, ![1, 1, 25000]⟩
abbrev S256x1 : Shape := ⟨2, ![256, 1]⟩
abbrev S25000x64 : Shape := ⟨2, ![25000, 64]⟩
abbrev S25000x1 : Shape := ⟨2, ![25000, 1]⟩
abbrev S1x25000 : Shape := ⟨2, ![1, 25000]⟩
abbrev S256x25000 : Shape := ⟨2, ![256, 25000]⟩
abbrev S5x1x10000 : Shape := ⟨3, ![5, 1, 10000]⟩
abbrev S10000x128 : Shape := ⟨2, ![10000, 128]⟩
abbrev S1x1x10000 : Shape := ⟨3, ![1, 1, 10000]⟩
abbrev S10000x64 : Shape := ⟨2, ![10000, 64]⟩
abbrev S10000x1 : Shape := ⟨2, ![10000, 1]⟩
abbrev S1x10000 : Shape := ⟨2, ![1, 10000]⟩
abbrev S256x10000 : Shape := ⟨2, ![256, 10000]⟩
abbrev S_ : Shape := ⟨0, ![]⟩

abbrev nBuf : Space → Nat
  | .hbm => 20
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S50000x128, .f32⟩
  | .hbm, ⟨2, _⟩ => ⟨S100000, .i32⟩
  | .hbm, ⟨3, _⟩ => ⟨S50000, .i32⟩
  | .hbm, ⟨4, _⟩ => ⟨S128x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S4x1x25000, .i32⟩
  | .hbm, ⟨9, _⟩ => ⟨S1x64, .f32⟩
  | .hbm, ⟨10, _⟩ => ⟨S1x64, .f32⟩
  | .hbm, ⟨11, _⟩ => ⟨S256x128, .f32⟩
  | .hbm, ⟨12, _⟩ => ⟨S5x1x10000, .i32⟩
  | .hbm, ⟨13, _⟩ => ⟨S1x64, .f32⟩
  | .hbm, ⟨14, _⟩ => ⟨S1x64, .f32⟩
  | .hbm, ⟨15, _⟩ => ⟨S256x128, .f32⟩
  | .hbm, ⟨16, _⟩ => ⟨S256x128, .f32⟩
  | .hbm, ⟨17, _⟩ => ⟨S_, .f32⟩
  | .hbm, ⟨18, _⟩ => ⟨S256x128, .f32⟩
  | .hbm, ⟨19, _⟩ => ⟨S256x128, .f32⟩
  | .local _ .vmem, ⟨0, _⟩ => ⟨S25000x128, .f32⟩
  | .local _ .vmem, ⟨1, _⟩ => ⟨S25000x128, .f32⟩
  | .local _ .vmem, ⟨2, _⟩ => ⟨S1x1x25000, .i32⟩
  | .local _ .vmem, ⟨3, _⟩ => ⟨S1x1x25000, .i32⟩
  | .local _ .vmem, ⟨4, _⟩ => ⟨S128x64, .f32⟩
  | .local _ .vmem, ⟨5, _⟩ => ⟨S1x64, .f32⟩
  | .local _ .vmem, ⟨6, _⟩ => ⟨S1x64, .f32⟩
  | .local _ .vmem, ⟨7, _⟩ => ⟨S256x128, .f32⟩
  | .local _ .vmem, ⟨8, _⟩ => ⟨S256x128, .f32⟩
  | .local _ .vmem, ⟨9, _⟩ => ⟨S256x1, .f32⟩
  | .local _ .vmem, ⟨10, _⟩ => ⟨S10000x128, .f32⟩
  | .local _ .vmem, ⟨11, _⟩ => ⟨S10000x128, .f32⟩
  | .local _ .vmem, ⟨12, _⟩ => ⟨S1x1x10000, .i32⟩
  | .local _ .vmem, ⟨13, _⟩ => ⟨S1x1x10000, .i32⟩
  | .local _ .vmem, ⟨14, _⟩ => ⟨S128x64, .f32⟩
  | .local _ .vmem, ⟨15, _⟩ => ⟨S1x64, .f32⟩
  | .local _ .vmem, ⟨16, _⟩ => ⟨S1x64, .f32⟩
  | .local _ .vmem, ⟨17, _⟩ => ⟨S256x128, .f32⟩
  | .local _ .vmem, ⟨18, _⟩ => ⟨S256x128, .f32⟩
  | .local _ .vmem, ⟨19, _⟩ => ⟨S256x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_scratch0 : Ref sig .tc := ⟨.vmem, 18, rfl⟩
abbrev cc1_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v37 : BitVec 1 := Scalar.cmpi .eq arg0 c3_i32
  let v38 : BitVec 32 := Scalar.extui v37
  let c0_i32_24 : BitVec 32 := 0#32
  let v39 : BitVec 1 := Scalar.cmpi .ne v38 c0_i32_24
  v39

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S25000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x25000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![5], ![false]⟩

def k1_cond2 (i : grid1.Coords) : BitVec 1 :=
  let arg0 : BitVec 32 := BitVec.ofNat 32 (i 0).val
  let c4_i32 : BitVec 32 := 4#32
  let v37 : BitVec 1 := Scalar.cmpi .eq arg0 c4_i32
  let v38 : BitVec 32 := Scalar.extui v37
  let c0_i32_24 : BitVec 32 := 0#32
  let v39 : BitVec 1 := Scalar.cmpi .ne v38 c0_i32_24
  v39

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x10000 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]
-- ==== ReferenceIdeal.lean ====
abbrev S100000x128 : Shape := ⟨2, ![100000, 128]⟩
abbrev S50000x128 : Shape := ⟨2, ![50000, 128]⟩
abbrev S100000 : Shape := ⟨1, ![100000]⟩
abbrev S50000 : Shape := ⟨1, ![50000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S100000x64 : Shape := ⟨2, ![100000, 64]⟩
abbrev S1x64 : Shape := ⟨2, ![1, 64]⟩
abbrev S100000x1 : Shape := ⟨2, ![100000, 1]⟩
abbrev S1x1 : Shape := ⟨2, ![1, 1]⟩
abbrev S1x100000 : Shape := ⟨2, ![1, 100000]⟩
abbrev S256x1 : Shape := ⟨2, ![256, 1]⟩
abbrev S256x100000 : Shape := ⟨2, ![256, 100000]⟩
abbrev S_ : Shape := ⟨0, ![]⟩
abbrev S256 : Shape := ⟨1, ![256]⟩
abbrev S256x128 : Shape := ⟨2, ![256, 128]⟩
abbrev S50000x64 : Shape := ⟨2, ![50000, 64]⟩
abbrev S50000x1 : Shape := ⟨2, ![50000, 1]⟩
abbrev S1x50000 : Shape := ⟨2, ![1, 50000]⟩
abbrev S256x50000 : Shape := ⟨2, ![256, 50000]⟩

abbrev nBuf : Space → Nat
  | .hbm => 152
  | .vmem => 0
  | .smem => 0
  | _ => 0

abbrev hbmTy0_0 (i : Nat) : BufTy := match i % 128 with
  | 0 => ⟨S100000x128, .f32⟩
  | 1 => ⟨S50000x128, .f32⟩
  | 2 => ⟨S100000, .i32⟩
  | 3 => ⟨S50000, .i32⟩
  | 4 => ⟨S128x64, .f32⟩
  | 5 => ⟨S64, .f32⟩
  | 6 => ⟨S64x1, .f32⟩
  | 7 => ⟨S1, .f32⟩
  | 8 => ⟨S100000x64, .f32⟩
  | 9 => ⟨S1x64, .f32⟩
  | 10 => ⟨S100000x64, .f32⟩
  | 11 => ⟨S100000x64, .f32⟩
  | 12 => ⟨S100000x64, .f32⟩
  | 13 => ⟨S100000x1, .f32⟩
  | 14 => ⟨S1x1, .f32⟩
  | 15 => ⟨S100000x1, .f32⟩
  | 16 => ⟨S100000x1, .f32⟩
  | 17 => ⟨S100000, .f32⟩
  | 18 => ⟨S1x100000, .i32⟩
  | 19 => ⟨S256x1, .i32⟩
  | 20 => ⟨S256x100000, .i32⟩
  | 21 => ⟨S256x100000, .i32⟩
  | 22 => ⟨S256x100000, .i1⟩
  | 23 => ⟨S1x100000, .f32⟩
  | 24 => ⟨S_, .f32⟩
  | 25 => ⟨S_, .f32⟩
  | 26 => ⟨S256x100000, .f32⟩
  | 27 => ⟨S256x100000, .f32⟩
  | 28 => ⟨S256x100000, .f32⟩
  | 29 => ⟨S_, .f32⟩
  | 30 => ⟨S256, .f32⟩
  | 31 => ⟨S256, .f32⟩
  | 32 => ⟨S_, .f32⟩
  | 33 => ⟨S256, .f32⟩
  | 34 => ⟨S256, .i1⟩
  | 35 => ⟨S_, .f32⟩
  | 36 => ⟨S_, .f32⟩
  | 37 => ⟨S256, .f32⟩
  | 38 => ⟨S256, .f32⟩
  | 39 => ⟨S_, .i32⟩
  | 40 => ⟨S100000, .i32⟩
  | 41 => ⟨S100000, .i1⟩
  | 42 => ⟨S_, .i32⟩
  | 43 => ⟨S100000, .i32⟩
  | 44 => ⟨S100000, .i32⟩
  | 45 => ⟨S100000, .i32⟩
  | 46 => ⟨S100000x1, .i32⟩
  | 47 => ⟨S100000, .f32⟩
  | 48 => ⟨S100000, .f32⟩
  | 49 => ⟨S100000, .f32⟩
  | 50 => ⟨S_, .f32⟩
  | 51 => ⟨S256, .f32⟩
  | 52 => ⟨S100000x1, .i32⟩
  | 53 => ⟨S256, .f32⟩
  | 54 => ⟨S_, .f32⟩
  | 55 => ⟨S256, .f32⟩
  | 56 => ⟨S256, .i1⟩
  | 57 => ⟨S_, .f32⟩
  | 58 => ⟨S_, .f32⟩
  | 59 => ⟨S256, .f32⟩
  | 60 => ⟨S256, .f32⟩
  | 61 => ⟨S_, .i32⟩
  | 62 => ⟨S100000, .i32⟩
  | 63 => ⟨S100000, .i1⟩
  | 64 => ⟨S_, .i32⟩
  | 65 => ⟨S100000, .i32⟩
  | 66 => ⟨S100000, .i32⟩
  | 67 => ⟨S100000, .i32⟩
  | 68 => ⟨S100000x1, .i32⟩
  | 69 => ⟨S100000, .f32⟩
  | 70 => ⟨S100000, .f32⟩
  | 71 => ⟨S100000x1, .f32⟩
  | 72 => ⟨S100000x128, .f32⟩
  | 73 => ⟨S100000x128, .f32⟩
  | 74 => ⟨S_, .f32⟩
  | 75 => ⟨S256x128, .f32⟩
  | 76 => ⟨S100000x1, .i32⟩
  | 77 => ⟨S256x128, .f32⟩
  | 78 => ⟨S50000x64, .f32⟩
  | 79 => ⟨S1x64, .f32⟩
  | 80 => ⟨S50000x64, .f32⟩
  | 81 => ⟨S50000x64, .f32⟩
  | 82 => ⟨S50000x64, .f32⟩
  | 83 => ⟨S50000x1, .f32⟩
  | 84 => ⟨S1x1, .f32⟩
  | 85 => ⟨S50000x1, .f32⟩
  | 86 => ⟨S50000x1, .f32⟩
  | 87 => ⟨S50000, .f32⟩
  | 88 => ⟨S1x50000, .i32⟩
  | 89 => ⟨S256x1, .i32⟩
  | 90 => ⟨S256x50000, .i32⟩
  | 91 => ⟨S256x50000, .i32⟩
  | 92 => ⟨S256x50000, .i1⟩
  | 93 => ⟨S1x50000, .f32⟩
  | 94 => ⟨S_, .f32⟩
  | 95 => ⟨S_, .f32⟩
  | 96 => ⟨S256x50000, .f32⟩
  | 97 => ⟨S256x50000, .f32⟩
  | 98 => ⟨S256x50000, .f32⟩
  | 99 => ⟨S_, .f32⟩
  | 100 => ⟨S256, .f32⟩
  | 101 => ⟨S256, .f32⟩
  | 102 => ⟨S_, .f32⟩
  | 103 => ⟨S256, .f32⟩
  | 104 => ⟨S256, .i1⟩
  | 105 => ⟨S_, .f32⟩
  | 106 => ⟨S_, .f32⟩
  | 107 => ⟨S256, .f32⟩
  | 108 => ⟨S256, .f32⟩
  | 109 => ⟨S_, .i32⟩
  | 110 => ⟨S50000, .i32⟩
  | 111 => ⟨S50000, .i1⟩
  | 112 => ⟨S_, .i32⟩
  | 113 => ⟨S50000, .i32⟩
  | 114 => ⟨S50000, .i32⟩
  | 115 => ⟨S50000, .i32⟩
  | 116 => ⟨S50000x1, .i32⟩
  | 117 => ⟨S50000, .f32⟩
  | 118 => ⟨S50000, .f32⟩
  | 119 => ⟨S50000, .f32⟩
  | 120 => ⟨S_, .f32⟩
  | 121 => ⟨S256, .f32⟩
  | 122 => ⟨S50000x1, .i32⟩
  | 123 => ⟨S256, .f32⟩
  | 124 => ⟨S_, .f32⟩
  | 125 => ⟨S256, .f32⟩
  | 126 => ⟨S256, .i1⟩
  | 127 => ⟨S_, .f32⟩
  | _ => ⟨S100000x128, .f32⟩

abbrev hbmTy0_1 (i : Nat) : BufTy := match i % 128 with
  | 0 => ⟨S_, .f32⟩
  | 1 => ⟨S256, .f32⟩
  | 2 => ⟨S256, .f32⟩
  | 3 => ⟨S_, .i32⟩
  | 4 => ⟨S50000, .i32⟩
  | 5 => ⟨S50000, .i1⟩
  | 6 => ⟨S_, .i32⟩
  | 7 => ⟨S50000, .i32⟩
  | 8 => ⟨S50000, .i32⟩
  | 9 => ⟨S50000, .i32⟩
  | 10 => ⟨S50000x1, .i32⟩
  | 11 => ⟨S50000, .f32⟩
  | 12 => ⟨S50000, .f32⟩
  | 13 => ⟨S50000x1, .f32⟩
  | 14 => ⟨S50000x128, .f32⟩
  | 15 => ⟨S50000x128, .f32⟩
  | 16 => ⟨S_, .f32⟩
  | 17 => ⟨S256x128, .f32⟩
  | 18 => ⟨S50000x1, .i32⟩
  | 19 => ⟨S256x128, .f32⟩
  | 20 => ⟨S256x128, .f32⟩
  | 21 => ⟨S_, .f32⟩
  | 22 => ⟨S256x128, .f32⟩
  | 23 => ⟨S256x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v16 : Ref sig .tc := ⟨.hbm, 28, rfl⟩
abbrev main_cst_0 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_call1_v0 : Ref sig .tc := ⟨.hbm, 36, rfl⟩
abbrev main_call1_v1 : Ref sig .tc := ⟨.hbm, 37, rfl⟩
abbrev main_v21 : Ref sig .tc := ⟨.hbm, 38, rfl⟩
abbrev main_c : Ref sig .tc := ⟨.hbm, 39, rfl⟩
abbrev main_v22 : Ref sig .tc := ⟨.hbm, 40, rfl⟩
abbrev main_v23 : Ref sig .tc := ⟨.hbm, 41, rfl⟩
abbrev main_c_3 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_4 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_5 : Ref sig .tc := ⟨.hbm, 54, rfl⟩
abbrev main_v34 : Ref sig .tc := ⟨.hbm, 55, rfl⟩
abbrev main_v35 : Ref sig .tc := ⟨.hbm, 56, rfl⟩
abbrev main_cst_6 : Ref sig .tc := ⟨.hbm, 57, rfl⟩
abbrev main_call2_v0 : Ref sig .tc := ⟨.hbm, 58, rfl⟩
abbrev main_call2_v1 : Ref sig .tc := ⟨.hbm, 59, rfl⟩
abbrev main_v36 : Ref sig .tc := ⟨.hbm, 60, rfl⟩
abbrev main_c_7 : Ref sig .tc := ⟨.hbm, 61, rfl⟩
abbrev main_v37 : Ref sig .tc := ⟨.hbm, 62, rfl⟩
abbrev main_v38 : Ref sig .tc := ⟨.hbm, 63, rfl⟩
abbrev main_c_8 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_9 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_10 : Ref sig .tc := ⟨.hbm, 94, rfl⟩
abbrev main_call3_v0 : Ref sig .tc := ⟨.hbm, 95, rfl⟩
abbrev main_call3_v1 : Ref sig .tc := ⟨.hbm, 96, rfl⟩
abbrev main_call3_v2 : Ref sig .tc := ⟨.hbm, 97, rfl⟩
abbrev main_v67 : Ref sig .tc := ⟨.hbm, 98, rfl⟩
abbrev main_cst_11 : Ref sig .tc := ⟨.hbm, 99, rfl⟩
abbrev main_v68 : Ref sig .tc := ⟨.hbm, 100, rfl⟩
abbrev main_v69 : Ref sig .tc := ⟨.hbm, 101, rfl⟩
abbrev main_cst_12 : Ref sig .tc := ⟨.hbm, 102, rfl⟩
abbrev main_v70 : Ref sig .tc := ⟨.hbm, 103, rfl⟩
abbrev main_v71 : Ref sig .tc := ⟨.hbm, 104, rfl⟩
abbrev main_cst_13 : Ref sig .tc := ⟨.hbm, 105, rfl⟩
abbrev main_call4_v0 : Ref sig .tc := ⟨.hbm, 106, rfl⟩
abbrev main_call4_v1 : Ref sig .tc := ⟨.hbm, 107, rfl⟩
abbrev main_v72 : Ref sig .tc := ⟨.hbm, 108, rfl⟩
abbrev main_c_14 : Ref sig .tc := ⟨.hbm, 109, rfl⟩
abbrev main_v73 : Ref sig .tc := ⟨.hbm, 110, rfl⟩
abbrev main_v74 : Ref sig .tc := ⟨.hbm, 111, rfl⟩
abbrev main_c_15 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_cst_16 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_cst_17 : Ref sig .tc := ⟨.hbm, 124, rfl⟩
abbrev main_v85 : Ref sig .tc := ⟨.hbm, 125, rfl⟩
abbrev main_v86 : Ref sig .tc := ⟨.hbm, 126, rfl⟩
abbrev main_cst_18 : Ref sig .tc := ⟨.hbm, 127, rfl⟩
abbrev main_call5_v0 : Ref sig .tc := ⟨.hbm, 128, rfl⟩
abbrev main_call5_v1 : Ref sig .tc := ⟨.hbm, 129, rfl⟩
abbrev main_v87 : Ref sig .tc := ⟨.hbm, 130, rfl⟩
abbrev main_c_19 : Ref sig .tc := ⟨.hbm, 131, rfl⟩
abbrev main_v88 : Ref sig .tc := ⟨.hbm, 132, rfl⟩
abbrev main_v89 : Ref sig .tc := ⟨.hbm, 133, rfl⟩
abbrev main_c_20 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_cst_21 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_cst_22 : Ref sig .tc := ⟨.hbm, 149, rfl⟩
abbrev main_v103 : Ref sig .tc := ⟨.hbm, 150, rfl⟩
abbrev main_v104 : Ref sig .tc := ⟨.hbm, 151, rfl⟩

abbrev nD : Nat := 1
abbrev τ : Topo := Topo.v7x

variable {F : FTy → Type} [FloatOps F]
-- ==== Proof.PoolBody.lean ====
module

public import proofs.«01_k».proof.Proof.Gen.KernelIdeal.Regions
public import proofs.«01_k».proof.Proof.Gen.KernelIdeal.Skeleton
public import Idealize.ShloMosaic.Lib.Pipeline.FrameBody
public import Idealize.ShloMosaic.Lib.Ring
public import Idealize.ShloMosaic.Lib.VecWindow
public import Idealize.ShloMosaic.Lib.Tactic
public import Idealize.ShloMosaic.Lib.WordCmp

@[expose] public section

/-!
# The body of a call

Both calls run one body, at different block sizes.  Here it is written once, over the values it computes, and what it
does to its buffers is proved once.
-/

set_option maxRecDepth 16384

noncomputable section

namespace Cert.KernelIdeal.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- What one call computes on a block of `N` rows, as functions of the values it loads: the weight of each row (`wt`),
    which rows belong to which graph (`mask`), the weighted sums (`num`) and the sums of the weights (`den`). -/
structure Parts (F : FTy → Type) [FloatOps F] (N : ℕ) where
  wt : Vec F ⟨2, ![N, 128]⟩ .f32 → Vec F S128x64 .f32 → Vec F S1x64 .f32 → Vec F S1x64 .f32 → FVec F ⟨2, ![N, 1]⟩ .f32
  mask : Vec F ⟨3, ![1, 1, N]⟩ .i32 → FVec F ⟨2, ![256, N]⟩ .f32
  num : Vec F ⟨2, ![N, 128]⟩ .f32 → Vec F S128x64 .f32 → Vec F S1x64 .f32 → Vec F S1x64 .f32 → Vec F ⟨3, ![1, 1, N]⟩ .i32 → Vec F S256x128 .f32 → FVec F S256x128 .f32
  den : FVec F ⟨2, ![N, 1]⟩ .f32 → FVec F ⟨2, ![256, N]⟩ .f32 → Vec F S256x1 .f32 → FVec F S256x1 .f32 → FVec F S256x1 .f32
  num₀ : FVec F S256x128 .f32
  den₀ : FVec F S256x1 .f32
  out : Vec F S256x1 .f32 → Vec F S256x128 .f32 → FVec F S256x128 .f32
  hx : 0 < (⟨2, ![N, 128]⟩ : Shape).numel
  hw : 0 < (⟨3, ![1, 1, N]⟩ : Shape).numel
  inbx : ∀ a, (![0, 0] : Fin 2 → ℕ) a + (⟨2, ![N, 128]⟩ : Shape).size a ≤ (⟨2, ![N, 128]⟩ : Shape).size a
  inbw : ∀ a, (![0, 0, 0] : Fin 3 → ℕ) a + (⟨3, ![1, 1, N]⟩ : Shape).size a ≤ (⟨3, ![1, 1, N]⟩ : Shape).size a

variable {N : ℕ} (P : Parts F N)

/-- The weighted sums after a block of rows `x` with graph words `w`, from the sums `d` before it. -/
def Parts.numStep (x : Vec F ⟨2, ![N, 128]⟩ .f32) (w : Vec F ⟨3, ![1, 1, N]⟩ .i32) (W1 : Vec F S128x64 .f32) (b1 w2 : Vec F S1x64 .f32) (d : Vec F S256x128 .f32) : Vec F S256x128 .f32 :=
  P.num x W1 b1 w2 w d
/-- The sums of the weights after a block of rows. -/
def Parts.denStep (x : Vec F ⟨2, ![N, 128]⟩ .f32) (w : Vec F ⟨3, ![1, 1, N]⟩ .i32) (W1 : Vec F S128x64 .f32) (b1 w2 : Vec F S1x64 .f32) (d : Vec F S256x1 .f32) : Vec F S256x1 .f32 :=
  P.den (P.wt x W1 b1 w2) (P.mask w) d (constant S256x1 .f32 0x00000000#32)

/-- The first part of a call's body: the sums cleared where `c0` holds, the loads, the weighted sums stored. -/
noncomputable def part (c0 : Prop) [Decidable c0] (k : BitVec 32) (arg1 : Memref sig .tc .vmem ⟨2, ![N, 128]⟩ .f32) (harg1 : arg1.IsWhole) (arg2 : Memref sig .tc .vmem ⟨3, ![1, 1, N]⟩ .i32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg7 : Memref sig .tc .vmem S256x128 .f32) (arg8 : Memref sig .tc .vmem S256x1 .f32) :
    Prog (TpuEff nD τ sig (Elt F) Λ₀ .tc) (Σ' (arg0 : BitVec 32) (v14 : FVec F ⟨2, ![N, 1]⟩ .f32) (v22 : FVec F ⟨2, ![256, N]⟩ .f32) (v31 : Vec F S256x1 .f32), FVec F S256x1 .f32) := do
  if h : c0 then do
    let v41 : Vec F S256x128 .f32 ← Prog.lift (.load arg7 (Rect.unit (s := S256x128) ![0, 0] S256x128.size inb_S256x128_S256x128_0_0).toLoadRect (View.loadsAt_vmem h_S256x128))
    Prog.lift (.store arg7 (Rect.unit (s := S256x128) ![0, 0] S256x128.size inb_S256x128_S256x128_0_0) P.num₀ Finset.univ (View.stores_vmem_bits_univ h_S256x128 rfl) (.inl rfl))
    let v45 : Vec F S256x1 .f32 ← Prog.lift (.load arg8 (Rect.unit (s := S256x1) ![0, 0] S256x1.size inb_S256x1_S256x1_0_0).toLoadRect (View.loadsAt_vmem h_S256x1))
    Prog.lift (.store arg8 (Rect.unit (s := S256x1) ![0, 0] S256x1.size inb_S256x1_S256x1_0_0) P.den₀ Finset.univ (View.stores_vmem_bits_univ h_S256x1 rfl) (.inl rfl))
    pure ⟨⟩
  else do
    pure ⟨⟩
  let v3 : Vec F ⟨2, ![N, 128]⟩ .f32 ← Prog.lift (.load arg1 (Rect.unit (s := ⟨2, ![N, 128]⟩) ![0, 0] (Shape.size ⟨2, ![N, 128]⟩) P.inbx).toLoadRect (View.loadsAt_vmem P.hx))
  let v4 : Vec F S128x64 .f32 ← Prog.lift (.load arg3 (Rect.unit (s := S128x64) ![0, 0] S128x64.size inb_S128x64_S128x64_0_0).toLoadRect (View.loadsAt_vmem h_S128x64))
  let v6 : Vec F S1x64 .f32 ← Prog.lift (.load arg4 (Rect.unit (s := S1x64) ![0, 0] S1x64.size inb_S1x64_S1x64_0_0).toLoadRect (View.loadsAt_vmem h_S1x64))
  let v11 : Vec F S1x64 .f32 ← Prog.lift (.load arg5 (Rect.unit (s := S1x64) ![0, 0] S1x64.size inb_S1x64_S1x64_0_0).toLoadRect (View.loadsAt_vmem h_S1x64))
  let v15 : Vec F ⟨3, ![1, 1, N]⟩ .i32 ← Prog.lift (.load arg2 (Rect.unit (s := ⟨3, ![1, 1, N]⟩) ![0, 0, 0] (Shape.size ⟨3, ![1, 1, N]⟩) P.inbw).toLoadRect (View.loadsAt_vmem P.hw))
  let v25 : Vec F S256x128 .f32 ← Prog.lift (.load arg7 (Rect.unit (s := S256x128) ![0, 0] S256x128.size inb_S256x128_S256x128_0_0).toLoadRect (View.loadsAt_vmem h_S256x128))
  let v28 : Vec F S256x128 .f32 ← Prog.lift (.load arg7 (Rect.unit (s := S256x128) ![0, 0] S256x128.size inb_S256x128_S256x128_0_0).toLoadRect (View.loadsAt_vmem h_S256x128))
  Prog.lift (.store arg7 (Rect.unit (s := S256x128) ![0, 0] S256x128.size inb_S256x128_S256x128_0_0) (P.num v3 v4 v6 v11 v15 v25) Finset.univ (View.stores_vmem_bits_univ h_S256x128 rfl) (.inl rfl))
  let v31 : Vec F S256x1 .f32 ← Prog.lift (.load arg8 (Rect.unit (s := S256x1) ![0, 0] S256x1.size inb_S256x1_S256x1_0_0).toLoadRect (View.loadsAt_vmem h_S256x1))
  pure ⟨k, P.wt v3 v4 v6 v11, P.mask v15, v31, constant S256x1 .f32 0x00000000#32⟩

/-- A call's body at one grid point: `c0` says that it clears the sums, `c1` that it writes the result. -/
noncomputable def poolBody (c0 c1 : Prop) [Decidable c0] [Decidable c1] (k : BitVec 32) (arg1 : Memref sig .tc .vmem ⟨2, ![N, 128]⟩ .f32) (harg1 : arg1.IsWhole) (arg2 : Memref sig .tc .vmem ⟨3, ![1, 1, N]⟩ .i32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x1 .f32) (harg8 : arg8.IsWhole) :
    Prog (TpuEff nD τ sig (Elt F) Λ₀ .tc) PUnit := do
  let ⟨arg0, v14, v22, v31, cst_21⟩ : Σ' (arg0 : BitVec 32) (v14 : FVec F ⟨2, ![N, 1]⟩ .f32) (v22 : FVec F ⟨2, ![256, N]⟩ .f32) (v31 : Vec F S256x1 .f32), FVec F S256x1 .f32 ← part P c0 k arg1 harg1 arg2 harg2 arg3 harg3 arg4 harg4 arg5 harg5 arg7 arg8
  let v34 : Vec F S256x1 .f32 ← Prog.lift (.load arg8 (Rect.unit (s := S256x1) ![0, 0] S256x1.size inb_S256x1_S256x1_0_0).toLoadRect (View.loadsAt_vmem h_S256x1))
  Prog.lift (.store arg8 (Rect.unit (s := S256x1) ![0, 0] S256x1.size inb_S256x1_S256x1_0_0) (P.den v14 v22 v31 cst_21) Finset.univ (View.stores_vmem_bits_univ h_S256x1 rfl) (.inl rfl))
  if h : c1 then do
    let v40 : Vec F S256x1 .f32 ← Prog.lift (.load arg8 (Rect.unit (s := S256x1) ![0, 0] S256x1.size inb_S256x1_S256x1_0_0).toLoadRect (View.loadsAt_vmem h_S256x1))
    let v45 : Vec F S256x128 .f32 ← Prog.lift (.load arg7 (Rect.unit (s := S256x128) ![0, 0] S256x128.size inb_S256x128_S256x128_0_0).toLoadRect (View.loadsAt_vmem h_S256x128))
    let v48 : Vec F S256x128 .f32 ← Prog.lift (.load arg6 (Rect.unit (s := S256x128) ![0, 0] S256x128.size inb_S256x128_S256x128_0_0).toLoadRect (View.loadsAt_vmem h_S256x128))
    Prog.lift (.store arg6 (Rect.unit (s := S256x128) ![0, 0] S256x128.size inb_S256x128_S256x128_0_0) (P.out v40 v45) Finset.univ (View.stores_vmem_bits_univ h_S256x128 rfl) (.inl rfl))
    pure ⟨⟩
  else do
    pure ⟨⟩
  pure ⟨⟩

omit [FloatOps F] in
/-- A load of everything from a whole buffer that holds `X` reads `X`. -/
theorem load_whole {sp : Space} {s : Shape} {e : EltTy} {a : Memref sig .tc sp s e} (h : a.IsWhole) {off : Fin s.rank → ℕ} (inb : ∀ k, off k + s.size k ≤ s.size k) (X : s.Idx → Elt F e) :
    View.readAt (Elt F) a.view (Rect.unit off s.size inb).toLoadRect (h.unread X) = X :=
  (View.readAt_full _ _ _).trans (h.read_unread X)

variable {P} in
/-- Equal operands give equal weighted sums. -/
theorem Parts.num_eq {x x' : Vec F ⟨2, ![N, 128]⟩ .f32} {w w' : Vec F ⟨3, ![1, 1, N]⟩ .i32} {W1 W1' : Vec F S128x64 .f32} {b1 b1' w2 w2' : Vec F S1x64 .f32} {d d' : Vec F S256x128 .f32}
    (hx : x = x') (hW : W1 = W1') (hb : b1 = b1') (h2 : w2 = w2') (hw : w = w') (hd : d = d') : P.num x W1 b1 w2 w d = P.numStep x' w' W1' b1' w2' d' := by
  subst hx hw hW hb h2 hd; rfl

variable {P} in
/-- Equal operands give equal sums of the weights. -/
theorem Parts.den_eq {x x' : Vec F ⟨2, ![N, 128]⟩ .f32} {w w' : Vec F ⟨3, ![1, 1, N]⟩ .i32} {W1 W1' : Vec F S128x64 .f32} {b1 b1' w2 w2' : Vec F S1x64 .f32} {d d' : Vec F S256x1 .f32} {z : FVec F S256x1 .f32}
    (hx : x = x') (hW : W1 = W1') (hb : b1 = b1') (h2 : w2 = w2') (hw : w = w') (hd : d = d') (hz : z = constant S256x1 .f32 0x00000000#32) : P.den (P.wt x W1 b1 w2) (P.mask w) d z = P.denStep x' w' W1' b1' w2' d' := by
  subst hx hw hW hb h2 hd hz; rfl

set_option maxHeartbeats 4000000 in
/-- One grid point of a call: from its blocks `x0`–`x4`, the result buffer at `x5` and the sums at `x6`, `x7`, the body
    leaves the sums one step further (from cleared sums where `c0` holds) and, where `c1` holds, the result in its buffer. -/
theorem poolBody_triple (c : Dev nD) (c0 c1 : Prop) [Decidable c0] [Decidable c1] (k : BitVec 32) (arg1 : Memref sig .tc .vmem ⟨2, ![N, 128]⟩ .f32) (harg1 : arg1.IsWhole) (arg2 : Memref sig .tc .vmem ⟨3, ![1, 1, N]⟩ .i32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x1 .f32) (harg8 : arg8.IsWhole)
    (x0 : Vec F ⟨2, ![N, 128]⟩ .f32) (x1 : Vec F ⟨3, ![1, 1, N]⟩ .i32) (x2 : Vec F S128x64 .f32) (x3 : Vec F S1x64 .f32) (x4 : Vec F S1x64 .f32)
    (x5 : Vec F S256x128 .f32) (x6 : Vec F S256x128 .f32) (x7 : Vec F S256x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (if c1 then P.out (P.denStep x0 x1 x2 x3 x4 (if c0 then P.den₀ else x7)) (P.numStep x0 x1 x2 x3 x4 (if c0 then P.num₀ else x6)) else x5)
            ∗ owns (c : Thread nD τ) arg7 fullShare (P.numStep x0 x1 x2 x3 x4 (if c0 then P.num₀ else x6))
            ∗ owns (c : Thread nD τ) arg8 fullShare (P.denStep x0 x1 x2 x3 x4 (if c0 then P.den₀ else x7))) -∗ K ⟨⟩))
      ⊢ wp frame (wpE (defs₀ (F := F)) Variants.none c none) E (poolBody P c0 c1 k arg1 harg1 arg2 harg2 arg3 harg3 arg4 harg4 arg5 harg5 arg6 harg6 arg7 harg7 arg8 harg8) K := by
  unfold poolBody part
  unfold owns
  rcases Classical.em (c0) with hc0 | hc0 <;> rcases Classical.em (c1) with hc1 | hc1
  all_goals
    try simp only [if_pos hc0]
    try simp only [if_neg hc0]
    try simp only [if_pos hc1]
    try simp only [if_neg hc1]
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | sl_exact hc0 | sl_exact hc1)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    have e7 {d d' : Vec F S256x128 .f32} (hd : d = d') := Parts.num_eq (P := P) (load_whole harg1 P.inbx x0) (load_whole harg3 inb_S128x64_S128x64_0_0 x2) (load_whole harg4 inb_S1x64_S1x64_0_0 x3) (load_whole harg5 inb_S1x64_S1x64_0_0 x4) (load_whole harg2 P.inbw x1) hd
    have e8 {d d' : Vec F S256x1 .f32} (hd : d = d') := Parts.den_eq (P := P) (load_whole harg1 P.inbx x0) (load_whole harg3 inb_S128x64_S128x64_0_0 x2) (load_whole harg4 inb_S1x64_S1x64_0_0 x3) (load_whole harg5 inb_S1x64_S1x64_0_0 x4) (load_whole harg2 P.inbw x1) hd rfl
    isplitl [H5]
    · iexists _; isplitr; rotate_left; · iexact H5
      ipureintro
      first
      | exact hf5
      | exact (View.read_writes_full _ _ _ _ _).trans (congr (congrArg _ ((View.readCov_full _ _ _ _ _).trans (e8 (by (try dsimp only); first | exact load_whole harg8 _ _ | exact View.readCov_full _ _ _ _ _)))) ((View.readCov_full _ _ _ _ _).trans (e7 (by (try dsimp only); first | exact load_whole harg7 _ _ | exact View.readCov_full _ _ _ _ _))))
    isplitl [H6]
    · iexists _; isplitr; rotate_left; · iexact H6
      ipureintro
      exact (View.read_writes_full _ _ _ _ _).trans (e7 (by (try dsimp only); first | exact load_whole harg7 _ _ | exact View.readCov_full _ _ _ _ _))
    iexists _; isplitr; rotate_left; · iexact H7
    ipureintro
    exact (View.read_writes_full _ _ _ _ _).trans (e8 (by (try dsimp only); first | exact load_whole harg8 _ _ | exact View.readCov_full _ _ _ _ _))

end Cert.KernelIdeal.Pool
end
-- ==== Proof.Sums.lean ====
module

public import proofs.«01_k».proof.Proof.PoolBody
public import proofs.«01_k».proof.Proof.Gen.KernelIdeal.Points
public import Idealize.ShloMosaic.Lib.Pipeline.RegionArraysS

@[expose] public section

/-!
# The two sums across the grid

What a call keeps between grid points, and one point of it, stated once for both calls.
-/

set_option maxRecDepth 16384

noncomputable section

namespace Cert.KernelIdeal.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The two sums after the first `k` of `n` blocks of rows. -/
def Parts.acc {N : ℕ} (P : Parts F N) {n : ℕ} (xs : Fin n → Vec F ⟨2, ![N, 128]⟩ .f32) (ws : Fin n → Vec F ⟨3, ![1, 1, N]⟩ .i32) (W1s : Fin n → Vec F S128x64 .f32) (b1s w2s : Fin n → Vec F S1x64 .f32) :
    ℕ → Vec F S256x128 .f32 × Vec F S256x1 .f32
  | 0 => (P.num₀, P.den₀)
  | k + 1 => if h : k < n then
      (P.numStep (xs ⟨k, h⟩) (ws ⟨k, h⟩) (W1s ⟨k, h⟩) (b1s ⟨k, h⟩) (w2s ⟨k, h⟩) (acc P xs ws W1s b1s w2s k).1,
        P.denStep (xs ⟨k, h⟩) (ws ⟨k, h⟩) (W1s ⟨k, h⟩) (b1s ⟨k, h⟩) (w2s ⟨k, h⟩) (acc P xs ws W1s b1s w2s k).2)
    else acc P xs ws W1s b1s w2s k

/-- The sums after one more block. -/
theorem Parts.acc_succ {N : ℕ} (P : Parts F N) {n : ℕ} (xs : Fin n → Vec F ⟨2, ![N, 128]⟩ .f32) (ws : Fin n → Vec F ⟨3, ![1, 1, N]⟩ .i32) (W1s : Fin n → Vec F S128x64 .f32) (b1s w2s : Fin n → Vec F S1x64 .f32) (t : Fin n) :
    P.acc xs ws W1s b1s w2s (t.val + 1) =
      (P.numStep (xs t) (ws t) (W1s t) (b1s t) (w2s t) (P.acc xs ws W1s b1s w2s t.val).1, P.denStep (xs t) (ws t) (W1s t) (b1s t) (w2s t) (P.acc xs ws W1s b1s w2s t.val).2) := by
  show (if h : t.val < n then _ else _) = _
  rw [dif_pos t.isLt]

/-- The core's buffer `r` whole, at some contents. -/
def anyAt (c : Dev nD) (r : Ref sig .tc) : sProp 𝕄 :=
  iprop(∃ f : Buf (Elt F) ((c : Thread nD τ).loc r), ((c : Thread nD τ).loc r) ↦{fullShare} f)

/-- The same, as the ownership of the whole memref of `r`. -/
theorem anyAt_eq (c : Dev nD) (r : Ref sig .tc) : (anyAt (F := F) c r : sProp 𝕄) = iprop(∃ f, owns (c : Thread nD τ) (Memref.whole r) fullShare f) := by
  unfold anyAt; simp only [owns_whole]

section Step

variable {N n : ℕ} (P : Parts F N) (xs : Fin n → Vec F ⟨2, ![N, 128]⟩ .f32) (ws : Fin n → Vec F ⟨3, ![1, 1, N]⟩ .i32)
  (W1s : Fin n → Vec F S128x64 .f32) (b1s w2s : Fin n → Vec F S1x64 .f32)
  (c : Dev nD) (s7 : Memref sig .tc .vmem S256x128 .f32) (s8 : Memref sig .tc .vmem S256x1 .f32)

/-- What a call keeps between grid points: its two sums in `s7` and `s8`, known once the first point is done, beside
    `R`, which it does not touch. -/
def Parts.inv (R : sProp 𝕄) (k : ℕ) : sProp 𝕄 :=
  iprop(∃ (d7 : Vec F S256x128 .f32) (d8 : Vec F S256x1 .f32), ⌜0 < k → d7 = (P.acc xs ws W1s b1s w2s k).1 ∧ d8 = (P.acc xs ws W1s b1s w2s k).2⌝ ∗ owns (c : Thread nD τ) s7 fullShare d7 ∗ owns (c : Thread nD τ) s8 fullShare d8 ∗ R)

/-- Before the first point the two buffers hold anything. -/
theorem Parts.inv_start (R : sProp 𝕄) :
    iprop((∃ d7, owns (c : Thread nD τ) s7 fullShare d7) ∗ (∃ d8, owns (c : Thread nD τ) s8 fullShare d8) ∗ R) ⊢ P.inv xs ws W1s b1s w2s c s7 s8 R 0 := by
  unfold Parts.inv
  iintro ⟨⟨%d7, H0⟩, ⟨%d8, H1⟩, HR⟩
  iexists d7; iexists d8
  isplitr
  · ipureintro; exact fun h => absurd h (lt_irrefl 0)
  isplitl [H0]; · iexact H0
  isplitl [H1]; · iexact H1
  iexact HR

/-- Between points, whatever the sums, the two buffers hold something. -/
theorem Parts.inv_end (R : sProp 𝕄) (k : ℕ) : P.inv xs ws W1s b1s w2s c s7 s8 R k
    ⊢ iprop((∃ d7, owns (c : Thread nD τ) s7 fullShare d7) ∗ (∃ d8, owns (c : Thread nD τ) s8 fullShare d8) ∗ R) := by
  unfold Parts.inv
  iintro ⟨%d7, %d8, -, H0, H1, HR⟩
  isplitl [H0]; · iexists d7; iexact H0
  isplitl [H1]; · iexists d8; iexact H1
  iexact HR

set_option maxHeartbeats 4000000 in
/-- One grid point `t` of a call: where `c0` says "first" and `c1` "last", the body takes the sums before the point to the
    sums after it, leaves its blocks as they were, and leaves in the result's buffer the result at the last point and
    what it found at any other. -/
theorem Parts.sound (R : sProp 𝕄) (t : Fin n) (c0 c1 : Prop) [Decidable c0] [Decidable c1] (h0 : c0 ↔ t.val = 0) (k : BitVec 32)
    (arg1 : Memref sig .tc .vmem ⟨2, ![N, 128]⟩ .f32) (harg1 : arg1.IsWhole) (arg2 : Memref sig .tc .vmem ⟨3, ![1, 1, N]⟩ .i32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S256x128 .f32) (harg6 : arg6.IsWhole) (h7 : s7.IsWhole) (h8 : s8.IsWhole)
    {E0 E1 E2 E3 E4 E5 : Type} (x5 : E5 → Vec F S256x128 .f32) (O Q5 : sProp 𝕄)
    (h5 : ∀ e, owns (c : Thread nD τ) arg6 fullShare (if c1 then P.out (P.acc xs ws W1s b1s w2s (t.val + 1)).2 (P.acc xs ws W1s b1s w2s (t.val + 1)).1 else x5 e) ⊢ Q5) :
    iprop(P.inv xs ws W1s b1s w2s c s7 s8 R t.val ∗ O ∗ (∃ _e : E0, owns (c : Thread nD τ) arg1 fullShare (xs t)) ∗ (∃ _e : E1, owns (c : Thread nD τ) arg2 fullShare (ws t))
        ∗ (∃ _e : E2, owns (c : Thread nD τ) arg3 fullShare (W1s t)) ∗ (∃ _e : E3, owns (c : Thread nD τ) arg4 fullShare (b1s t)) ∗ (∃ _e : E4, owns (c : Thread nD τ) arg5 fullShare (w2s t))
        ∗ (∃ e : E5, owns (c : Thread nD τ) arg6 fullShare (x5 e)))
      ⊢ wp frame (wpE (defs₀ (F := F)) Variants.none c none) Set.univ (poolBody P c0 c1 k arg1 harg1 arg2 harg2 arg3 harg3 arg4 harg4 arg5 harg5 arg6 harg6 s7 h7 s8 h8) (fun _ =>
        iprop(P.inv xs ws W1s b1s w2s c s7 s8 R (t.val + 1) ∗ O ∗ owns (c : Thread nD τ) arg1 fullShare (xs t) ∗ owns (c : Thread nD τ) arg2 fullShare (ws t)
        ∗ owns (c : Thread nD τ) arg3 fullShare (W1s t) ∗ owns (c : Thread nD τ) arg4 fullShare (b1s t) ∗ owns (c : Thread nD τ) arg5 fullShare (w2s t)
        ∗ Q5)) := by
  unfold Parts.inv
  iintro ⟨⟨%d7, %d8, %hd, H6, H7, HR⟩, Ho, ⟨%_e0, H0⟩, ⟨%_e1, H1⟩, ⟨%_e2, H2⟩, ⟨%_e3, H3⟩, ⟨%_e4, H4⟩, ⟨%e5, H5⟩⟩
  have e7 : (if c0 then P.num₀ else d7) = (P.acc xs ws W1s b1s w2s t.val).1 := by
    by_cases h : t.val = 0
    · rw [if_pos (h0.mpr h), h]; rfl
    · rw [if_neg (fun h' => h (h0.mp h'))]; exact (hd (Nat.pos_of_ne_zero h)).1
  have e8 : (if c0 then P.den₀ else d8) = (P.acc xs ws W1s b1s w2s t.val).2 := by
    by_cases h : t.val = 0
    · rw [if_pos (h0.mpr h), h]; rfl
    · rw [if_neg (fun h' => h (h0.mp h'))]; exact (hd (Nat.pos_of_ne_zero h)).2
  have T := fun K => poolBody_triple P c c0 c1 k arg1 harg1 arg2 harg2 arg3 harg3 arg4 harg4 arg5 harg5 arg6 harg6 s7 h7 s8 h8
    (xs t) (ws t) (W1s t) (b1s t) (w2s t) (x5 e5) d7 d8 Set.univ K
  have en : P.numStep (xs t) (ws t) (W1s t) (b1s t) (w2s t) (P.acc xs ws W1s b1s w2s t.val).1 = (P.acc xs ws W1s b1s w2s (t.val + 1)).1 := by
    rw [P.acc_succ]
  have ed : P.denStep (xs t) (ws t) (W1s t) (b1s t) (w2s t) (P.acc xs ws W1s b1s w2s t.val).2 = (P.acc xs ws W1s b1s w2s (t.val + 1)).2 := by
    rw [P.acc_succ]
  rw [e7, e8, en, ed] at T
  iapply (T _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  isplitl [H6 H7 HR]
  · iexists _; iexists _
    isplitr
    · ipureintro; exact fun _ => ⟨rfl, rfl⟩
    isplitl [H6]; · iexact H6
    isplitl [H7]; · iexact H7
    iexact HR
  isplitl [Ho]; · iexact Ho
  isplitl [H0]; · iexact H0
  isplitl [H1]; · iexact H1
  isplitl [H2]; · iexact H2
  isplitl [H3]; · iexact H3
  isplitl [H4]; · iexact H4
  iapply (h5 e5)
  iexact H5

end Step

end Cert.KernelIdeal.Pool
end
-- ==== Proof.Call0.lean ====
module

public import proofs.«01_k».proof.Proof.Sums
public import proofs.«01_k».proof.Proof.Gen.KernelIdeal.Points
public import Idealize.ShloMosaic.Lib.Pipeline.RegionArraysS

@[expose] public section

/-!
# The first call

Its payloads, its proof data, and the common step applied at each of its points.
-/

set_option maxRecDepth 16384

noncomputable section

namespace Cert.KernelIdeal.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body clears its sums at this point. -/
abbrev first0 (i : grid0.Coords) : Prop := (Scalar.cmpi .ne (Scalar.extui (Scalar.cmpi .eq (BitVec.ofNat 32 (i 0).val) 0#32)) 0#32) = 1#1
/-- The body writes the result at this point. -/
abbrev last0 (i : grid0.Coords) : Prop := k0_cond2 i = 1#1

/-- The sums are cleared at the first point and at no other. -/
theorem first0_iff : ∀ t : Fin cfg0.N, first0 (grid0.coords t) ↔ t.val = 0 :=
  (fun t => by
    have ht : t.val < 4 := Nat.lt_of_lt_of_eq t.isLt N_0
    have e0 : (grid0.coords t 0).val = t.val / 1 % 4 := Pipeline.Grid.coords_val t 0 (by decide) rfl
    simp only [first0, e0]
    word_cmp
   : ∀ t : Fin grid0.N, first0 (grid0.coords t) ↔ t.val = 0)

/-- Where the body does not write the result, its buffer is left alone and not copied out. -/
theorem idle0_5 : ∀ t : Fin cfg0.N, ¬last0 (grid0.coords t) → cfg0.idle 5 (grid0.coords t) = true := by decide +kernel
/-- Nothing is copied out where the body does not write the result. -/
theorem noFlush0_5 : ∀ t : Fin cfg0.N, ¬last0 (grid0.coords t) → (cfg0.win 5).flush t = false := by decide +kernel
/-- Where the body writes the result, its buffer is in use. -/
theorem live0_5 : ∀ t : Fin cfg0.N, last0 (grid0.coords t) → cfg0.idle 5 (grid0.coords t) = false := by decide +kernel

/-- The payloads of this call. -/
def parts0 : Parts F 25000 where
  wt := k0_pay5
  mask := k0_pay6
  num := k0_pay7
  den := k0_pay1
  num₀ := k0_pay3
  den₀ := k0_pay4
  out := k0_pay2
  hx := h_S25000x128
  hw := h_S1x1x25000
  inbx := inb_S25000x128_S25000x128_0_0
  inbw := inb_S1x1x25000_S1x1x25000_0_0_0

set_option maxRecDepth 65536 in
/-- The printed body of this call is the common body at this call's payloads. -/
theorem body0_eq (i : grid0.Coords) (arg1 : Memref sig .tc .vmem S25000x128 .f32) (harg1 : arg1.IsWhole) (arg2 : Memref sig .tc .vmem S1x1x25000 .i32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x1 .f32) (harg8 : arg8.IsWhole) :
    cc0__pool_body (F := F) i arg1 harg1 arg2 harg2 arg3 harg3 arg4 harg4 arg5 harg5 arg6 harg6 arg7 harg7 arg8 harg8
      = poolBody parts0 (first0 i) (last0 i) (BitVec.ofNat 32 (i 0).val) arg1 harg1 arg2 harg2 arg3 harg3 arg4 harg4 arg5 harg5 arg6 harg6 arg7 harg7 arg8 harg8 := by
  rw [cc0__pool_body_eq_skeleton]; unfold cc0__pool_body_skel
  rw [k0_part1_eq_skeleton]; rfl

variable (V : Dev nD → Valuation τ sig (Elt F))

/-- Window `w`'s block at point `t`, of the array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- The sums after the first `k` points. -/
def acc0 (c : Dev nD) (k : ℕ) : Vec F S256x128 .f32 × Vec F S256x1 .f32 :=
  parts0.acc (blk0 V c 0) (blk0 V c 1) (blk0 V c 2) (blk0 V c 3) (blk0 V c 4) k

/-- The result: the weighted sums over the sums of the weights, after the last point. -/
def out0 (c : Dev nD) : Vec F S256x128 .f32 := parts0.out (acc0 V c cfg0.N).2 (acc0 V c cfg0.N).1

/-- The other call's scoped buffers, untouched here. -/
def rest0 (c : Dev nD) : sProp 𝕄 :=
  iprop(anyAt c cc1_stg0_0 ∗ anyAt c cc1_stg0_1 ∗ anyAt c cc1_stg1_0 ∗ anyAt c cc1_stg1_1 ∗ anyAt c cc1_stg2_0 ∗ anyAt c cc1_stg3_0 ∗ anyAt c cc1_stg4_0 ∗ anyAt c cc1_stg5_0 ∗ anyAt c cc1_scratch0 ∗ anyAt c cc1_scratch1)

/-- What the body keeps between points: the sums, known once the first point is done. -/
def inv0 (c : Dev nD) (n : ℕ) (_ : n ≤ cfg0.N) : sProp 𝕄 :=
  (parts0 (F := F)).inv (blk0 V c 0) (blk0 V c 1) (blk0 V c 2) (blk0 V c 3) (blk0 V c 4) c (Memref.whole cc0_scratch0) (Memref.whole cc0_scratch1) (rest0 c) n

/-- The proof data of the call on core `c`. -/
def dat0 (c : Dev nD) : Dat τ (Elt F) Unit ℕ (UR sig nD τ) ℕ cfg0 c where
  A w := V c (Proc.devRef .tc (Pipeline.arrRef spec0 w))
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => parts0.out (acc0 V c (t.val + 1)).2 (acc0 V c (t.val + 1)).1
  Φ t := inv0 V c t.val (Nat.le_of_lt_succ t.isLt)
  q _ := fullShare
  owed _ := 0

/-- Each window's array is as the call finds it. -/
theorem A0_eq (c : Dev nD) (w : Fin cfg0.W) : (dat0 V c).A w = V c (Proc.devRef .tc (Pipeline.arrRef spec0 w)) := by
  dsimp only [dat0]

/-- The body leaves the block of the features as it was. -/
theorem after0_0 (c : Dev nD) (t : Fin cfg0.N) : (dat0 V c).after 0 t = blk0 V c 0 t := by dsimp only [dat0]
/-- The body leaves the block of the graph words as it was. -/
theorem after0_1 (c : Dev nD) (t : Fin cfg0.N) : (dat0 V c).after 1 t = blk0 V c 1 t := by dsimp only [dat0]
/-- The body leaves the block of the first weights as it was. -/
theorem after0_2 (c : Dev nD) (t : Fin cfg0.N) : (dat0 V c).after 2 t = blk0 V c 2 t := by dsimp only [dat0]
/-- The body leaves the block of the bias as it was. -/
theorem after0_3 (c : Dev nD) (t : Fin cfg0.N) : (dat0 V c).after 3 t = blk0 V c 3 t := by dsimp only [dat0]
/-- The body leaves the block of the second weights as it was. -/
theorem after0_4 (c : Dev nD) (t : Fin cfg0.N) : (dat0 V c).after 4 t = blk0 V c 4 t := by dsimp only [dat0]
/-- The result's buffer after point `t`: the quotient of the sums so far. -/
theorem after0_5 (c : Dev nD) (t : Fin cfg0.N) : (dat0 V c).after 5 t = parts0.out (acc0 V c (t.val + 1)).2 (acc0 V c (t.val + 1)).1 := by dsimp only [dat0]

/-- The body finds the block of the features. -/
theorem before0_0 (c : Dev nD) (t : Fin cfg0.N) (d) : (dat0 V c).before 0 t d = blk0 V c 0 t :=
  ((dat0 V c).before_in_eq_fetched 0 rfl (fun _ => rfl) (fun _ _ _ => rfl) (fun t => by rw [after0_0]; unfold Dat.blockOf blk0; rw [A0_eq]; try rfl) t d).trans (by unfold Dat.fetched Dat.blockOf blk0; rw [A0_eq]; try rfl)
/-- The body finds the block of the graph words. -/
theorem before0_1 (c : Dev nD) (t : Fin cfg0.N) (d) : (dat0 V c).before 1 t d = blk0 V c 1 t :=
  ((dat0 V c).before_in_eq_fetched 1 rfl (fun _ => rfl) (fun _ _ _ => rfl) (fun t => by rw [after0_1]; unfold Dat.blockOf blk0; rw [A0_eq]; try rfl) t d).trans (by unfold Dat.fetched Dat.blockOf blk0; rw [A0_eq]; try rfl)
/-- The body finds the block of the first weights. -/
theorem before0_2 (c : Dev nD) (t : Fin cfg0.N) (d) : (dat0 V c).before 2 t d = blk0 V c 2 t :=
  ((dat0 V c).before_in_eq_fetched 2 rfl (fun _ => rfl) (fun _ _ _ => rfl) (fun t => by rw [after0_2]; unfold Dat.blockOf blk0; rw [A0_eq]; try rfl) t d).trans (by unfold Dat.fetched Dat.blockOf blk0; rw [A0_eq]; try rfl)
/-- The body finds the block of the bias. -/
theorem before0_3 (c : Dev nD) (t : Fin cfg0.N) (d) : (dat0 V c).before 3 t d = blk0 V c 3 t :=
  ((dat0 V c).before_in_eq_fetched 3 rfl (fun _ => rfl) (fun _ _ _ => rfl) (fun t => by rw [after0_3]; unfold Dat.blockOf blk0; rw [A0_eq]; try rfl) t d).trans (by unfold Dat.fetched Dat.blockOf blk0; rw [A0_eq]; try rfl)
/-- The body finds the block of the second weights. -/
theorem before0_4 (c : Dev nD) (t : Fin cfg0.N) (d) : (dat0 V c).before 4 t d = blk0 V c 4 t :=
  ((dat0 V c).before_in_eq_fetched 4 rfl (fun _ => rfl) (fun _ _ _ => rfl) (fun t => by rw [after0_4]; unfold Dat.blockOf blk0; rw [A0_eq]; try rfl) t d).trans (by unfold Dat.fetched Dat.blockOf blk0; rw [A0_eq]; try rfl)

/-- What the body is called with at point `t`. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- What it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t)

/-- What is kept before point `t`. -/
theorem Phi0_castSucc (c : Dev nD) (t : Fin cfg0.N) : (dat0 V c).Φ t.castSucc = inv0 V c t.val (Nat.le_of_lt t.isLt) := by
  dsimp only [dat0]; exact Pipeline.Dat.Φ_castSucc (inv0 V c) t

set_option maxHeartbeats 4000000 in
/-- The body at any point keeps the invariant and leaves each window's buffer as the proof data says. -/
theorem sound0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  rw [body0_eq]
  simp only [before0_0, before0_1, before0_2, before0_3, before0_4]
  rw [show (dat0 V c).owesAt () t.succ = (dat0 V c).owesAt () t.castSucc from rfl]
  rw [show (dat0 V c).Φ t.succ = inv0 V c (t.val + 1) t.isLt from rfl, Phi0_castSucc]
  rw [show (dat0 V c).leavesExact 0 t = owns (c : Thread nD τ) (st0_0 t) fullShare (blk0 V c 0 t) from rfl,
    show (dat0 V c).leavesExact 1 t = owns (c : Thread nD τ) (st0_1 t) fullShare (blk0 V c 1 t) from rfl,
    show (dat0 V c).leavesExact 2 t = owns (c : Thread nD τ) (st0_2 t) fullShare (blk0 V c 2 t) from rfl,
    show (dat0 V c).leavesExact 3 t = owns (c : Thread nD τ) (st0_3 t) fullShare (blk0 V c 3 t) from rfl,
    show (dat0 V c).leavesExact 4 t = owns (c : Thread nD τ) (st0_4 t) fullShare (blk0 V c 4 t) from rfl]
  unfold inv0
  refine (parts0 (F := F)).sound (blk0 V c 0) (blk0 V c 1) (blk0 V c 2) (blk0 V c 3) (blk0 V c 4) c
    (Memref.whole cc0_scratch0) (Memref.whole cc0_scratch1) (rest0 c) t (first0 (grid0.coords t)) (last0 (grid0.coords t)) (first0_iff t) (BitVec.ofNat 32 (grid0.coords t 0).val)
    _ _ _ _ _ _ _ _ _ _ _ _ _ _ ((dat0 V c).before 5 t) ((dat0 V c).owesAt () t.castSucc) _ (fun e5 => ?_)
  by_cases hl : last0 (grid0.coords t)
  · rw [if_pos hl, show (dat0 V c).leavesExact 5 t = owns (c : Thread nD τ) (st0_5 t) fullShare ((dat0 V c).after 5 t) from by
      unfold Dat.leavesExact; rw [live0_5 t hl], after0_5]
    exact .rfl
  · rw [if_neg hl, Dat.leavesExact_idle (dat0 V c) 5 t (idle0_5 t hl) (noFlush0_5 t hl)]
    iintro H5
    iexists e5; iexact H5

/-- The function the first call runs at a point is its body. -/
theorem row0 (t : Fin cfg0.N) :
    defs₀ (F := F) .tc cfg0.body (cfg0.bodyArgs t (cfg0.slots t)) = bodyAt0 t := by
  unfold defs₀; rw [Defs.onTc_tc]

/-- The body meets the proof data at every point. -/
theorem obligation0 (c : Dev nD) : BodyObligation (dat0 (F := F) V c) (defs₀ (F := F)) Variants.none () Set.univ := fun t => by
  rw [bigSep_W0, bigSep_W0, row0]
  exact triple_restated (sound0 V c t) rfl .rfl fun _ => .rfl

/-- The scoped buffers no window stages, the sums' two first. -/
theorem scoped0 (c : Dev nD) :
    (Pipeline.scopedRest spec0 c : sProp 𝕄) = iprop(anyAt c cc0_scratch0 ∗ anyAt c cc0_scratch1 ∗ rest0 c) :=
  Pipeline.scopedRest_eq_of_list spec0 c [cc0_scratch0, cc0_scratch1, cc1_stg0_0, cc1_stg0_1, cc1_stg1_0, cc1_stg1_1, cc1_stg2_0, cc1_stg3_0, cc1_stg4_0, cc1_stg5_0, cc1_scratch0, cc1_scratch1] (by decide) (by decide)

/-- The first call starts with its sums' buffers holding anything. -/
theorem hin0 (c : Dev nD) : iprop(Pipeline.scopedRest spec0 c ∗ emp) ⊢ (dat0 V c).Φ 0 := by
  rw [show (dat0 V c).Φ 0 = inv0 V c 0 (Nat.zero_le _) from rfl, scoped0, anyAt_eq, anyAt_eq]
  exact BI.sep_emp.1.trans (Parts.inv_start _ _ _ _ _ _ _ _ _ _)

/-- The first call gives its sums' buffers back. -/
theorem hout0 (c : Dev nD) : (dat0 V c).Φ (Fin.last cfg0.N) ⊢ iprop(Pipeline.scopedRest spec0 c ∗ emp) := by
  rw [show (dat0 V c).Φ (Fin.last cfg0.N) = inv0 V c cfg0.N le_rfl from rfl, scoped0, anyAt_eq, anyAt_eq]
  exact (Parts.inv_end _ _ _ _ _ _ _ _ _ _ _).trans BI.sep_emp.2

end Cert.KernelIdeal.Pool
end
-- ==== Proof.Call1.lean ====
module

public import proofs.«01_k».proof.Proof.Sums
public import proofs.«01_k».proof.Proof.Gen.KernelIdeal.Points
public import Idealize.ShloMosaic.Lib.Pipeline.RegionArraysS

@[expose] public section

/-!
# The second call

Its payloads, its proof data, and the common step applied at each of its points.
-/

set_option maxRecDepth 16384

noncomputable section

namespace Cert.KernelIdeal.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body clears its sums at this point. -/
abbrev first1 (i : grid1.Coords) : Prop := (Scalar.cmpi .ne (Scalar.extui (Scalar.cmpi .eq (BitVec.ofNat 32 (i 0).val) 0#32)) 0#32) = 1#1
/-- The body writes the result at this point. -/
abbrev last1 (i : grid1.Coords) : Prop := k1_cond2 i = 1#1

/-- The sums are cleared at the first point and at no other. -/
theorem first1_iff : ∀ t : Fin cfg1.N, first1 (grid1.coords t) ↔ t.val = 0 :=
  (fun t => by
    have ht : t.val < 5 := Nat.lt_of_lt_of_eq t.isLt N_1
    have e0 : (grid1.coords t 0).val = t.val / 1 % 5 := Pipeline.Grid.coords_val t 0 (by decide) rfl
    simp only [first1, e0]
    word_cmp
   : ∀ t : Fin grid1.N, first1 (grid1.coords t) ↔ t.val = 0)

/-- Where the body does not write the result, its buffer is left alone and not copied out. -/
theorem idle1_5 : ∀ t : Fin cfg1.N, ¬last1 (grid1.coords t) → cfg1.idle 5 (grid1.coords t) = true := by decide +kernel
/-- Nothing is copied out where the body does not write the result. -/
theorem noFlush1_5 : ∀ t : Fin cfg1.N, ¬last1 (grid1.coords t) → (cfg1.win 5).flush t = false := by decide +kernel
/-- Where the body writes the result, its buffer is in use. -/
theorem live1_5 : ∀ t : Fin cfg1.N, last1 (grid1.coords t) → cfg1.idle 5 (grid1.coords t) = false := by decide +kernel

/-- The payloads of this call. -/
def parts1 : Parts F 10000 where
  wt := k1_pay5
  mask := k1_pay6
  num := k1_pay7
  den := k1_pay1
  num₀ := k1_pay3
  den₀ := k1_pay4
  out := k1_pay2
  hx := h_S10000x128
  hw := h_S1x1x10000
  inbx := inb_S10000x128_S10000x128_0_0
  inbw := inb_S1x1x10000_S1x1x10000_0_0_0

set_option maxRecDepth 65536 in
/-- The printed body of this call is the common body at this call's payloads. -/
theorem body1_eq (i : grid1.Coords) (arg1 : Memref sig .tc .vmem S10000x128 .f32) (harg1 : arg1.IsWhole) (arg2 : Memref sig .tc .vmem S1x1x10000 .i32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x1 .f32) (harg8 : arg8.IsWhole) :
    cc1__pool_body (F := F) i arg1 harg1 arg2 harg2 arg3 harg3 arg4 harg4 arg5 harg5 arg6 harg6 arg7 harg7 arg8 harg8
      = poolBody parts1 (first1 i) (last1 i) (BitVec.ofNat 32 (i 0).val) arg1 harg1 arg2 harg2 arg3 harg3 arg4 harg4 arg5 harg5 arg6 harg6 arg7 harg7 arg8 harg8 := by
  rw [cc1__pool_body_eq_skeleton]; unfold cc1__pool_body_skel
  rw [k1_part1_eq_skeleton]; rfl

variable (V : Dev nD → Valuation τ sig (Elt F))

/-- Window `w`'s block at point `t`, of the array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-- The sums after the first `k` points. -/
def acc1 (c : Dev nD) (k : ℕ) : Vec F S256x128 .f32 × Vec F S256x1 .f32 :=
  parts1.acc (blk1 V c 0) (blk1 V c 1) (blk1 V c 2) (blk1 V c 3) (blk1 V c 4) k

/-- The result: the weighted sums over the sums of the weights, after the last point. -/
def out1 (c : Dev nD) : Vec F S256x128 .f32 := parts1.out (acc1 V c cfg1.N).2 (acc1 V c cfg1.N).1

/-- The other call's scoped buffers, untouched here. -/
def rest1 (c : Dev nD) : sProp 𝕄 :=
  iprop(anyAt c cc0_stg0_0 ∗ anyAt c cc0_stg0_1 ∗ anyAt c cc0_stg1_0 ∗ anyAt c cc0_stg1_1 ∗ anyAt c cc0_stg2_0 ∗ anyAt c cc0_stg3_0 ∗ anyAt c cc0_stg4_0 ∗ anyAt c cc0_stg5_0 ∗ anyAt c cc0_scratch0 ∗ anyAt c cc0_scratch1)

/-- What the body keeps between points: the sums, known once the first point is done. -/
def inv1 (c : Dev nD) (n : ℕ) (_ : n ≤ cfg1.N) : sProp 𝕄 :=
  (parts1 (F := F)).inv (blk1 V c 0) (blk1 V c 1) (blk1 V c 2) (blk1 V c 3) (blk1 V c 4) c (Memref.whole cc1_scratch0) (Memref.whole cc1_scratch1) (rest1 c) n

/-- The proof data of the call on core `c`. -/
def dat1 (c : Dev nD) : Dat τ (Elt F) Unit ℕ (UR sig nD τ) ℕ cfg1 c where
  A w := V c (Proc.devRef .tc (Pipeline.arrRef spec1 w))
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => parts1.out (acc1 V c (t.val + 1)).2 (acc1 V c (t.val + 1)).1
  Φ t := inv1 V c t.val (Nat.le_of_lt_succ t.isLt)
  q _ := fullShare
  owed _ := 0

/-- Each window's array is as the call finds it. -/
theorem A1_eq (c : Dev nD) (w : Fin cfg1.W) : (dat1 V c).A w = V c (Proc.devRef .tc (Pipeline.arrRef spec1 w)) := by
  dsimp only [dat1]

/-- The body leaves the block of the features as it was. -/
theorem after1_0 (c : Dev nD) (t : Fin cfg1.N) : (dat1 V c).after 0 t = blk1 V c 0 t := by dsimp only [dat1]
/-- The body leaves the block of the graph words as it was. -/
theorem after1_1 (c : Dev nD) (t : Fin cfg1.N) : (dat1 V c).after 1 t = blk1 V c 1 t := by dsimp only [dat1]
/-- The body leaves the block of the first weights as it was. -/
theorem after1_2 (c : Dev nD) (t : Fin cfg1.N) : (dat1 V c).after 2 t = blk1 V c 2 t := by dsimp only [dat1]
/-- The body leaves the block of the bias as it was. -/
theorem after1_3 (c : Dev nD) (t : Fin cfg1.N) : (dat1 V c).after 3 t = blk1 V c 3 t := by dsimp only [dat1]
/-- The body leaves the block of the second weights as it was. -/
theorem after1_4 (c : Dev nD) (t : Fin cfg1.N) : (dat1 V c).after 4 t = blk1 V c 4 t := by dsimp only [dat1]
/-- The result's buffer after point `t`: the quotient of the sums so far. -/
theorem after1_5 (c : Dev nD) (t : Fin cfg1.N) : (dat1 V c).after 5 t = parts1.out (acc1 V c (t.val + 1)).2 (acc1 V c (t.val + 1)).1 := by dsimp only [dat1]

/-- The body finds the block of the features. -/
theorem before1_0 (c : Dev nD) (t : Fin cfg1.N) (d) : (dat1 V c).before 0 t d = blk1 V c 0 t :=
  ((dat1 V c).before_in_eq_fetched 0 rfl (fun _ => rfl) (fun _ _ _ => rfl) (fun t => by rw [after1_0]; unfold Dat.blockOf blk1; rw [A1_eq]; try rfl) t d).trans (by unfold Dat.fetched Dat.blockOf blk1; rw [A1_eq]; try rfl)
/-- The body finds the block of the graph words. -/
theorem before1_1 (c : Dev nD) (t : Fin cfg1.N) (d) : (dat1 V c).before 1 t d = blk1 V c 1 t :=
  ((dat1 V c).before_in_eq_fetched 1 rfl (fun _ => rfl) (fun _ _ _ => rfl) (fun t => by rw [after1_1]; unfold Dat.blockOf blk1; rw [A1_eq]; try rfl) t d).trans (by unfold Dat.fetched Dat.blockOf blk1; rw [A1_eq]; try rfl)
/-- The body finds the block of the first weights. -/
theorem before1_2 (c : Dev nD) (t : Fin cfg1.N) (d) : (dat1 V c).before 2 t d = blk1 V c 2 t :=
  ((dat1 V c).before_in_eq_fetched 2 rfl (fun _ => rfl) (fun _ _ _ => rfl) (fun t => by rw [after1_2]; unfold Dat.blockOf blk1; rw [A1_eq]; try rfl) t d).trans (by unfold Dat.fetched Dat.blockOf blk1; rw [A1_eq]; try rfl)
/-- The body finds the block of the bias. -/
theorem before1_3 (c : Dev nD) (t : Fin cfg1.N) (d) : (dat1 V c).before 3 t d = blk1 V c 3 t :=
  ((dat1 V c).before_in_eq_fetched 3 rfl (fun _ => rfl) (fun _ _ _ => rfl) (fun t => by rw [after1_3]; unfold Dat.blockOf blk1; rw [A1_eq]; try rfl) t d).trans (by unfold Dat.fetched Dat.blockOf blk1; rw [A1_eq]; try rfl)
/-- The body finds the block of the second weights. -/
theorem before1_4 (c : Dev nD) (t : Fin cfg1.N) (d) : (dat1 V c).before 4 t d = blk1 V c 4 t :=
  ((dat1 V c).before_in_eq_fetched 4 rfl (fun _ => rfl) (fun _ _ _ => rfl) (fun t => by rw [after1_4]; unfold Dat.blockOf blk1; rw [A1_eq]; try rfl) t d).trans (by unfold Dat.fetched Dat.blockOf blk1; rw [A1_eq]; try rfl)

/-- What the body is called with at point `t`. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- What it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t ∗ (dat1 V c).leavesExact 5 t)

/-- What is kept before point `t`. -/
theorem Phi1_castSucc (c : Dev nD) (t : Fin cfg1.N) : (dat1 V c).Φ t.castSucc = inv1 V c t.val (Nat.le_of_lt t.isLt) := by
  dsimp only [dat1]; exact Pipeline.Dat.Φ_castSucc (inv1 V c) t

set_option maxHeartbeats 4000000 in
/-- The body at any point keeps the invariant and leaves each window's buffer as the proof data says. -/
theorem sound1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  rw [body1_eq]
  simp only [before1_0, before1_1, before1_2, before1_3, before1_4]
  rw [show (dat1 V c).owesAt () t.succ = (dat1 V c).owesAt () t.castSucc from rfl]
  rw [show (dat1 V c).Φ t.succ = inv1 V c (t.val + 1) t.isLt from rfl, Phi1_castSucc]
  rw [show (dat1 V c).leavesExact 0 t = owns (c : Thread nD τ) (st1_0 t) fullShare (blk1 V c 0 t) from rfl,
    show (dat1 V c).leavesExact 1 t = owns (c : Thread nD τ) (st1_1 t) fullShare (blk1 V c 1 t) from rfl,
    show (dat1 V c).leavesExact 2 t = owns (c : Thread nD τ) (st1_2 t) fullShare (blk1 V c 2 t) from rfl,
    show (dat1 V c).leavesExact 3 t = owns (c : Thread nD τ) (st1_3 t) fullShare (blk1 V c 3 t) from rfl,
    show (dat1 V c).leavesExact 4 t = owns (c : Thread nD τ) (st1_4 t) fullShare (blk1 V c 4 t) from rfl]
  unfold inv1
  refine (parts1 (F := F)).sound (blk1 V c 0) (blk1 V c 1) (blk1 V c 2) (blk1 V c 3) (blk1 V c 4) c
    (Memref.whole cc1_scratch0) (Memref.whole cc1_scratch1) (rest1 c) t (first1 (grid1.coords t)) (last1 (grid1.coords t)) (first1_iff t) (BitVec.ofNat 32 (grid1.coords t 0).val)
    _ _ _ _ _ _ _ _ _ _ _ _ _ _ ((dat1 V c).before 5 t) ((dat1 V c).owesAt () t.castSucc) _ (fun e5 => ?_)
  by_cases hl : last1 (grid1.coords t)
  · rw [if_pos hl, show (dat1 V c).leavesExact 5 t = owns (c : Thread nD τ) (st1_5 t) fullShare ((dat1 V c).after 5 t) from by
      unfold Dat.leavesExact; rw [live1_5 t hl], after1_5]
    exact .rfl
  · rw [if_neg hl, Dat.leavesExact_idle (dat1 V c) 5 t (idle1_5 t hl) (noFlush1_5 t hl)]
    iintro H5
    iexists e5; iexact H5

/-- The function the second call runs at a point is its body. -/
theorem row1 (t : Fin cfg1.N) :
    defs₀ (F := F) .tc cfg1.body (cfg1.bodyArgs t (cfg1.slots t)) = bodyAt1 t := by
  unfold defs₀; rw [Defs.onTc_tc]

/-- The body meets the proof data at every point. -/
theorem obligation1 (c : Dev nD) : BodyObligation (dat1 (F := F) V c) (defs₀ (F := F)) Variants.none () Set.univ := fun t => by
  rw [bigSep_W1, bigSep_W1, row1]
  exact triple_restated (sound1 V c t) rfl .rfl fun _ => .rfl

/-- The scoped buffers no window stages, the sums' two first. -/
theorem scoped1 (c : Dev nD) :
    (Pipeline.scopedRest spec1 c : sProp 𝕄) = iprop(anyAt c cc1_scratch0 ∗ anyAt c cc1_scratch1 ∗ rest1 c) :=
  Pipeline.scopedRest_eq_of_list spec1 c [cc1_scratch0, cc1_scratch1, cc0_stg0_0, cc0_stg0_1, cc0_stg1_0, cc0_stg1_1, cc0_stg2_0, cc0_stg3_0, cc0_stg4_0, cc0_stg5_0, cc0_scratch0, cc0_scratch1] (by decide) (by decide)

/-- The second call starts with its sums' buffers holding anything. -/
theorem hin1 (c : Dev nD) : iprop(Pipeline.scopedRest spec1 c ∗ emp) ⊢ (dat1 V c).Φ 0 := by
  rw [show (dat1 V c).Φ 0 = inv1 V c 0 (Nat.zero_le _) from rfl, scoped1, anyAt_eq, anyAt_eq]
  exact BI.sep_emp.1.trans (Parts.inv_start _ _ _ _ _ _ _ _ _ _)

/-- The second call gives its sums' buffers back. -/
theorem hout1 (c : Dev nD) : (dat1 V c).Φ (Fin.last cfg1.N) ⊢ iprop(Pipeline.scopedRest spec1 c ∗ emp) := by
  rw [show (dat1 V c).Φ (Fin.last cfg1.N) = inv1 V c cfg1.N le_rfl from rfl, scoped1, anyAt_eq, anyAt_eq]
  exact (Parts.inv_end _ _ _ _ _ _ _ _ _ _ _).trans BI.sep_emp.2

end Cert.KernelIdeal.Pool
end
-- ==== Proof.Final.lean ====
module

public import proofs.«01_k».proof.Proof.Call0
public import proofs.«01_k».proof.Proof.Call1
public import Idealize.ShloMosaic.Lib.Pipeline.ValueKit.Geometry

@[expose] public section

/-!
# What each call leaves in its output array

The result's block is the whole array, copied out once, after the last point.
-/

set_option maxRecDepth 16384

noncomputable section

namespace Cert.KernelIdeal.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : Dev nD → Valuation τ sig (Elt F))

/-- The embedding of a block at block index 0 on both axes, the block as large as its array, moves nothing. -/
theorem whole_emb {A B : ℕ} (e : Shape.Idx ⟨2, ![A, B]⟩ → Shape.Idx ⟨2, ![A, B]⟩) (y : Shape.Idx ⟨2, ![A, B]⟩) (i0 i1 : ℕ) (h0 : i0 = 0) (h1 : i1 = 0)
    (e0 : (e y 0).val = i0 * A + 1 * (y 0).val) (e1 : (e y 1).val = i1 * B + 1 * (y 1).val) : e y = y := by
  subst h0 h1
  funext a; apply Fin.ext
  match a with
  | ⟨0, _⟩ => show (e y 0).val = (y 0).val; omega
  | ⟨1, _⟩ => show (e y 1).val = (y 1).val; omega

/-- The output's block is the whole array at every point. -/
theorem idx0_5 : ∀ t : Fin cfg0.N, win0_5.index t (0 : Fin 2) = 0 ∧ win0_5.index t (1 : Fin 2) = 0 :=
  (by decide +kernel : ∀ t : Fin grid0.N, _)

/-- So its embedding moves nothing. -/
theorem emb0_5 (t : Fin cfg0.N) (y : S256x128.Idx) : (((cfg0.win 5).blk t).view.emb y : S256x128.Idx) = y :=
  whole_emb ((cfg0.win 5).blk t).view.emb y _ _ (idx0_5 t).1 (idx0_5 t).2 rfl rfl

/-- What the last point copies out is the whole result. -/
theorem flushed0_5 (c : Dev nD) (t : Fin cfg0.N) (hf : (cfg0.win 5).flush t = true) :
    (dat0 V c).flushed 5 t = ((cfg0.win 5).blk t).view.read (Elt F) (out0 V c) := by
  show (cfg0.win 5).cut (grid0.coords t) ((dat0 V c).after 5 t) = _
  rw [after0_5]
  have hm : t.val % 4 = 3 := (flush0_5 t).mp hf
  have hN : cfg0.N = 4 := N_0
  have ht : t.val + 1 = cfg0.N := by have := t.isLt; omega
  rw [ht]
  funext y
  exact congrArg (out0 V c) (emb0_5 t y).symm

/-- The last point's block covers the array. -/
theorem cover0_5 (i : S256x128.Idx) : ∃ t : Fin cfg0.N, (cfg0.win 5).flush t = true ∧ i ∈ ((cfg0.win 5).blk t).view.set :=
  let t : Fin cfg0.N := ⟨3, lt_of_lt_of_eq (by decide) N_0.symm⟩
  ⟨t, (flush0_5 t).mpr rfl, Eq.subst (motive := fun j : S256x128.Idx => j ∈ ((cfg0.win 5).blk t).view.set) (emb0_5 t i)
    (((cfg0.win 5).blk t).view.emb_mem_set i)⟩

/-- The call's output array ends at the pooled result. -/
theorem final0 (c : Dev nD) : (dat0 V c).arrAt 5 cfg0.N = out0 V c :=
  (dat0 V c).arrAt_eq_of_cover 5 _ (fun t hf => flushed0_5 V c t hf) cover0_5

/-- The output's block is the whole array at every point. -/
theorem idx1_5 : ∀ t : Fin cfg1.N, win1_5.index t (0 : Fin 2) = 0 ∧ win1_5.index t (1 : Fin 2) = 0 :=
  (by decide +kernel : ∀ t : Fin grid1.N, _)

/-- So its embedding moves nothing. -/
theorem emb1_5 (t : Fin cfg1.N) (y : S256x128.Idx) : (((cfg1.win 5).blk t).view.emb y : S256x128.Idx) = y :=
  whole_emb ((cfg1.win 5).blk t).view.emb y _ _ (idx1_5 t).1 (idx1_5 t).2 rfl rfl

/-- What the last point copies out is the whole result. -/
theorem flushed1_5 (c : Dev nD) (t : Fin cfg1.N) (hf : (cfg1.win 5).flush t = true) :
    (dat1 V c).flushed 5 t = ((cfg1.win 5).blk t).view.read (Elt F) (out1 V c) := by
  show (cfg1.win 5).cut (grid1.coords t) ((dat1 V c).after 5 t) = _
  rw [after1_5]
  have hm : t.val % 5 = 4 := (flush1_5 t).mp hf
  have hN : cfg1.N = 5 := N_1
  have ht : t.val + 1 = cfg1.N := by have := t.isLt; omega
  rw [ht]
  funext y
  exact congrArg (out1 V c) (emb1_5 t y).symm

/-- The last point's block covers the array. -/
theorem cover1_5 (i : S256x128.Idx) : ∃ t : Fin cfg1.N, (cfg1.win 5).flush t = true ∧ i ∈ ((cfg1.win 5).blk t).view.set :=
  let t : Fin cfg1.N := ⟨4, lt_of_lt_of_eq (by decide) N_1.symm⟩
  ⟨t, (flush1_5 t).mpr rfl, Eq.subst (motive := fun j : S256x128.Idx => j ∈ ((cfg1.win 5).blk t).view.set) (emb1_5 t i)
    (((cfg1.win 5).blk t).view.emb_mem_set i)⟩

/-- The call's output array ends at the pooled result. -/
theorem final1 (c : Dev nD) : (dat1 V c).arrAt 5 cfg1.N = out1 V c :=
  (dat1 V c).arrAt_eq_of_cover 5 _ (fun t hf => flushed1_5 V c t hf) cover1_5

end Cert.KernelIdeal.Pool
end
-- ==== Proof.Run.lean ====
module

public import proofs.«01_k».proof.Proof.Final
public import proofs.«01_k».proof.Proof.Gen.KernelIdeal.Regions

@[expose] public section

/-!
# The whole run

Two calls between three host stretches.
-/

set_option maxRecDepth 16384

noncomputable section

namespace Cert.KernelIdeal.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Seg HostSeg RegionSeg Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The buffers after the first call and the host stretch that follows it. -/
def mid (c : Dev nD) : Valuation τ sig (Elt F) :=
  StableHlo.after hostOps1 (Function.update (V1 m c) main_v3 (out0 (V1 m) c))

/-- What the two calls leave in their output arrays. -/
def outs : Outs (F := F) := fun _ r c =>
  if h : r = main_v3 then h ▸ out0 (V1 m) c
  else if h : r = main_v7 then h ▸ out1 (mid m) c
  else m ((c : Thread nD τ).loc r)

/-- The first call leaves its result in its output array. -/
theorem outs_v3 (c : Dev nD) : outs m 2 main_v3 c = out0 (V1 m) c := by
  unfold outs; rw [dif_pos rfl]
/-- The second call leaves its result in its output array. -/
theorem outs_v7 (c : Dev nD) : outs m 4 main_v7 c = out1 (mid m) c := by
  unfold outs; rw [dif_neg (by decide), dif_pos rfl]

/-- What the second call finds. -/
theorem V3_mid (c : Dev nD) : V3 m (outs m) c = mid m c := by
  unfold mid; rw [← outs_v3]

/-- The proof data of both calls. -/
def pdats : (p : Fin 2) → (c : Dev nD) → Dat τ (Elt F) Unit ℕ (UR sig nD τ) ℕ (cfgs p) c
  | 0, c => dat0 (V1 m) c
  | 1, c => dat1 (mid m) c

/-- The level of a counter. -/
abbrev lev : GSem nD τ sig → Finset Unit := fun g => if g.1.2 = .tc then {()} else ∅
/-- Every wait is at level 0. -/
abbrev lvl : GSem nD τ sig → Unit → ℕ := fun _ _ => 0

/-- What rides beside the buffers: the core owes nothing. -/
abbrev idle (c : Dev nD) : sProp 𝕄 := iprop((∃ Wd, owes (c : Thread nD τ) (0 : CellTallies nD τ sig Unit) Wd) ∗ emp ∗ emp)

/-- The levels meet what each launch asks of them. -/
theorem cut (p : Fin 2) : Pipeline.LevelCut (pcfgs (F := F)) adm () lev lvl p (fun _ => 0) (fun _ => 0) where
  hι c w s := by simp [lev]
  hιb c w s := le_rfl
  hD c g i h := absurd h (lt_irrefl 0)

/-- The region record of call 0. -/
def reg0 : RegionSeg (pcfgs (F := F)) adm (pdats m) () defs₀ Variants.none lev lvl 0 :=
  Pipeline.RegionSeg.ofHeldIn (pcfgs (F := F)) adm (pdats m) () defs₀ Variants.none lev lvl 0 (fun _ => 0) (Pipeline.ucRefs τ sig) (fun _ => iprop(emp)) (fun _ => iprop(emp))
    launch0.toP rfl (fun c => (obligation0 (V1 m) c).loose) (fun _ _ => rfl) (fun _ => rfl) (fun c w => (dat0 (V1 m) c).share_full (fun _ => rfl) w)
    (hin0 (V1 m)) (hout0 (V1 m)) (fun _ => 0) (cut 0) (fun _ => iprop(emp)) (V1 m) (fun c w => rfl)

/-- The region record of call 1. -/
def reg1 : RegionSeg (pcfgs (F := F)) adm (pdats m) () defs₀ Variants.none lev lvl 1 :=
  Pipeline.RegionSeg.ofHeldIn (pcfgs (F := F)) adm (pdats m) () defs₀ Variants.none lev lvl 1 (fun _ => 0) (Pipeline.ucRefs τ sig) (fun _ => iprop(emp)) (fun _ => iprop(emp))
    launch1.toP rfl (fun c => (obligation1 (mid m) c).loose) (fun _ _ => rfl) (fun _ => rfl) (fun c w => (dat1 (mid m) c).share_full (fun _ => rfl) w)
    (hin1 (mid m)) (hout1 (mid m)) (fun _ => 0) (cut 1) (fun _ => iprop(emp)) (mid m) (fun c w => rfl)

/-- The first call's arrays are among the unscoped buffers. -/
theorem arrs0 : Pipeline.arrRefs (pcfgs (F := F) 0).spec ⊆ Pipeline.ucRefs τ sig :=
  Pipeline.arrRefs_sub_ucRefs spec0 (by decide)
/-- The second call's arrays are among the unscoped buffers. -/
theorem arrs1 : Pipeline.arrRefs (pcfgs (F := F) 1).spec ⊆ Pipeline.ucRefs τ sig :=
  Pipeline.arrRefs_sub_ucRefs spec1 (by decide)

/-- Every window but the last is an input. -/
theorem isOut0 : ∀ w : Fin cfg0.W, w ≠ 5 → (cfg0.win w).isOut = false := by decide
/-- Every window but the last is an input. -/
theorem isOut1 : ∀ w : Fin cfg1.W, w ≠ 5 → (cfg1.win w).isOut = false := by decide

/-- An unscoped buffer is one of the core's references. -/
theorem of_ucRefs (b : DevRef τ sig) (hb : b ∈ Pipeline.ucRefs τ sig) : ∃ r : Ref sig .tc, b = Proc.devRef .tc r := by
  obtain ⟨h, -⟩ := Finset.mem_filter.mp hb
  obtain ⟨r, -, e⟩ := Finset.mem_map.mp h
  exact ⟨r, e.symm⟩

/-- What the first call is entered with. -/
theorem hpre0 (c : Dev nD) : iprop(StableHlo.held (c : Thread nD τ) (Pipeline.ucRefs τ sig) (V1 m c) ∗ idle c) ⊢ (reg0 m).pre c := by
  unfold reg0
  refine BI.Entails.trans ?_ (Pipeline.RegionSeg.ofHeldIn_pre (W := (V1 m)) arrs0 c)
  exact BI.Entails.refl _

/-- The buffers after the first call. -/
theorem after0_held (c : Dev nD) : ∀ b ∈ Pipeline.ucRefs τ sig, Pipeline.afterRegion (dat0 (V1 m) c) (V1 m c) b = V2 m (outs m) c b := by
  intro b hb
  obtain ⟨r, rfl⟩ := of_ucRefs b hb
  by_cases h : r = main_v3
  · subst h
    refine (Pipeline.afterRegion_arr (dat0 (V1 m) c) (V1 m c) launch0.win.arr_inj 5).trans ((final0 (V1 m) c).trans ?_)
    simp only [V2, outs_v3, Function.update_self]
  · rw [Pipeline.afterRegion_keeps (dat0 (V1 m) c) (V1 m c) launch0.win.arr_inj (A0_eq (V1 m) c) r (fun w e => isOut0 w (fun hw => h (by rw [← e, hw]))), V2_of m (outs m) c r (by simpa using h)]

/-- What the first call leaves. -/
theorem hpost0 (c : Dev nD) : (reg0 m).post c ⊢ iprop(StableHlo.held (c : Thread nD τ) (Pipeline.ucRefs τ sig) (V2 m (outs m) c) ∗ idle c) := by
  refine (Pipeline.RegionSeg.ofHeldIn_post (W := (V1 m)) arrs0 c).trans ?_
  rw [← StableHlo.held_congr (c : Thread nD τ) (after0_held m c)]
  exact .rfl

/-- What the second call is entered with. -/
theorem hpre1 (c : Dev nD) : iprop(StableHlo.held (c : Thread nD τ) (Pipeline.ucRefs τ sig) (V3 m (outs m) c) ∗ idle c) ⊢ (reg1 m).pre c := by
  rw [V3_mid]
  unfold reg1
  refine BI.Entails.trans ?_ (Pipeline.RegionSeg.ofHeldIn_pre (W := mid m) arrs1 c)
  exact BI.Entails.refl _

/-- The buffers after the second call. -/
theorem after1_held (c : Dev nD) : ∀ b ∈ Pipeline.ucRefs τ sig, Pipeline.afterRegion (dat1 (mid m) c) (mid m c) b = V4 m (outs m) c b := by
  intro b hb
  obtain ⟨r, rfl⟩ := of_ucRefs b hb
  by_cases h : r = main_v7
  · subst h
    refine (Pipeline.afterRegion_arr (dat1 (mid m) c) (mid m c) launch1.win.arr_inj 5).trans ((final1 (mid m) c).trans ?_)
    simp only [V4, outs_v7, Function.update_self]
  · rw [Pipeline.afterRegion_keeps (dat1 (mid m) c) (mid m c) launch1.win.arr_inj (A1_eq (mid m) c) r (fun w e => isOut1 w (fun hw => h (by rw [← e, hw]))), V4_of m (outs m) c r (by simpa using h), V3_mid]

/-- What the second call leaves. -/
theorem hpost1 (c : Dev nD) : (reg1 m).post c ⊢ iprop(StableHlo.held (c : Thread nD τ) (Pipeline.ucRefs τ sig) (V4 m (outs m) c) ∗ idle c) := by
  refine (Pipeline.RegionSeg.ofHeldIn_post (W := (mid m)) arrs1 c).trans ?_
  rw [← StableHlo.held_congr (c : Thread nD τ) (after1_held m c)]
  exact .rfl

variable (ρ : Dev nD → PrngReg)

set_option backward.isDefEq.respectTransparency.types false in
/-- Every run ends with all counters at zero and every unscoped buffer at the last valuation. -/
theorem run :
    θ_run defs (onTc (τ := τ) (main (F := F))) ⟨m, fun _ => 0, ρ⟩ (fun r => (∀ c : Dev nD, ∀ b ∈ Pipeline.ucRefs τ sig,
      r.2.mem ((c.tc : Thread nD τ).1, b) = V5 m (outs m) c b) ∧ r.2.sem = fun _ => 0) := by
  refine Pipeline.θ_run_regions_kit_dev_sems (pcfgs (F := F)) adm (pdats m) () cellOf_inj emb₁ defs₀ Variants.none lev lvl m ρ main
    (segs m (outs m) Variants.none lev lvl (fun _ => idle) () (pdats m) (reg0 m) (reg1 m))
    (fun c Q => by
      rewrite [main_chain c, Seg.run_eq_chain,
        show (segs m (outs m) Variants.none lev lvl (fun _ => idle) () (pdats m) (reg0 m) (reg1 m) c).map Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) 0 (fun g h => if_neg h) (fun _ => iprop(emp))
    (initOf (Pipeline.cells cfgs cellOf_inj) (Pipeline.launchToks cfgs cellOf_inj))
    (by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ idle c))
    (Tₙ := fun c => StableHlo.held (c : Thread nD τ) (Pipeline.ucRefs τ sig) (V5 m (outs m) c))
    (hch := fun c => ⟨.rfl, hpre0 m c, hpost0 m c, hpre1 m c, hpost1 m c, sep_mono .rfl (by iintro ⟨H, -⟩; iexact H)⟩)
    (hinit := ?_)
    (QY := fun c s => ∀ b ∈ Pipeline.ucRefs τ sig, s.mem ((c.tc : Thread nD τ).1, b) = V5 m (outs m) c b)
    (hfin := fun c s' => ?_) (hQ := fun _ h hz => ⟨h, funext fun g => hz g (.inr (regions_no_unscoped g.2))⟩)
  · refine Pipeline.initEach lev lvl fun c => ?_
    rw [show unscopedBufs c (fun b => m ((c.tc : Thread nD τ).loc b)) = StableHlo.held (c.tc : Thread nD τ) (Pipeline.ucRefs τ sig) (V0 m c)
        from Pipeline.unscopedBufs_held (Ix := Unit) (Name := ℕ) (U := UR sig nD τ) (Lvl := ℕ) c (V0 m c)]
    iintro ⟨⟨Hh, -, HO, -, -, -⟩, -⟩
    imodintro
    isplitl [Hh]; · iexact Hh
    isplitl [HO]; · iexists _; iexact HO
    isplitr <;> iempintro
  · unfold StableHlo.held
    iintro ⟨Hh, HSI⟩
    ihave Hr := (pointsTo_read_all (Pipeline.ucRefs τ sig) (fun b => ((c.tc : Thread nD τ).1, b)) (V5 m (outs m) c) s') $$ [Hh HSI]
    · isplitl [Hh] <;> iassumption
    imodintro; iexact Hr

/-- The same, read at the arguments and the result. -/
theorem run_read :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_v10) = V5 m (outs m) c main_v10)
      ∧ r.2.sem = fun _ => 0) :=
  (θ_run defs _ _).mono (fun r h => ⟨fun c => by
    have hm : ∀ b : Ref sig .tc, b.isScoped = false → Proc.devRef .tc b ∈ Pipeline.ucRefs τ sig :=
      fun b hb => Finset.mem_filter.mpr ⟨StableHlo.devRef_mem_tcRefs b, by simpa using hb⟩
    exact ⟨(h.1 c _ (hm main_arg0 rfl)).trans (V5_main_arg0 m (outs m) c), (h.1 c _ (hm main_arg1 rfl)).trans (V5_main_arg1 m (outs m) c),
      (h.1 c _ (hm main_arg2 rfl)).trans (V5_main_arg2 m (outs m) c), (h.1 c _ (hm main_arg3 rfl)).trans (V5_main_arg3 m (outs m) c),
      (h.1 c _ (hm main_arg4 rfl)).trans (V5_main_arg4 m (outs m) c), (h.1 c _ (hm main_arg5 rfl)).trans (V5_main_arg5 m (outs m) c),
      (h.1 c _ (hm main_arg6 rfl)).trans (V5_main_arg6 m (outs m) c), (h.1 c _ (hm main_arg7 rfl)).trans (V5_main_arg7 m (outs m) c),
      h.1 c _ (hm main_v10 rfl)⟩, h.2⟩) (run m ρ)

end Cert.KernelIdeal.Pool
end
-- ==== Proof.Same.lean ====
module

public import proofs.«01_k».proof.Proof.Gen.Kernel
public import proofs.«01_k».proof.Proof.Gen.KernelIdeal
public import Idealize.ShloMosaic.Adequacy
public import Idealize.ShloMosaic.Init

@[expose] public section

/-!
# The kernel and its ideal reading are one text

No operation of the kernel was rewritten for the ideal reading, so the two printed programs are equal at every
choice of floats.  What a run of one shows, a run of the other shows.
-/

noncomputable section
namespace Cert.Proof
open Idealize.ShloMosaic Idealize.SL.Sem
variable {F : FTy → Type} [FloatOps F]

attribute [local instance] Cert.Kernel.Gen.facts Cert.KernelIdeal.Gen.facts

set_option maxRecDepth 100000 in
/-- The first call's body is one text in both programs. -/
theorem body0_same : (Cert.Kernel.cc0__pool_body (F := F)) = (Cert.KernelIdeal.cc0__pool_body (F := F)) := rfl
set_option maxRecDepth 100000 in
/-- The second call's body is one text in both programs. -/
theorem body1_same : (Cert.Kernel.cc1__pool_body (F := F)) = (Cert.KernelIdeal.cc1__pool_body (F := F)) := rfl

set_option maxRecDepth 100000 in
/-- The two programs define the same functions. -/
theorem defs₀_same : (Cert.Kernel.defs₀ (F := F)) = (Cert.KernelIdeal.defs₀ (F := F)) := by
  unfold Cert.Kernel.defs₀ Cert.KernelIdeal.defs₀
  refine congrArg Defs.onTc (funext fun ℓ => ?_)
  match ℓ with
  | ⟨0, _⟩ => rfl
  | ⟨1, _⟩ => rfl

set_option maxRecDepth 100000 in
/-- The same, with the launches' own. -/
theorem defs_same : (Cert.Kernel.defs (F := F)) = (Cert.KernelIdeal.defs (F := F)) :=
  congrArg (Pipeline.defs Cert.KernelIdeal.pcfgs) defs₀_same

set_option maxRecDepth 100000 in
/-- The two programs have one main function. -/
theorem main_same : (Cert.Kernel.main (F := F)) = (Cert.KernelIdeal.main (F := F)) := rfl

end Cert.Proof
end
-- ==== Proof.Frames.lean ====
module

public import proofs.«01_k».proof.Defs
public import proofs.«01_k».proof.Proof.Run
public import proofs.«01_k».proof.Proof.Same
public import proofs.«01_k».proof.Proof.Gen.ReferenceIdeal.Run
public import proofs.«01_k».proof.Proof.Gen.Pre_bias_is_finite
public import Idealize.ShloMosaic.Lib.Quiescent

@[expose] public section

/-!
# The three programs end

Each of the kernel, its ideal reading and the reference ends without a fault, leaves its arguments as they were
and every counter at zero.  The kernel and its ideal reading are one program text, so one run serves both.
-/

noncomputable section
namespace Cert.Proof
open Idealize.ShloMosaic Idealize.SL.Sem

attribute [local instance] Cert.Kernel.Gen.facts Cert.KernelIdeal.Gen.facts Cert.ReferenceIdeal.Gen.facts
  Cert.Pre_bias_is_finite.Gen.facts

/-- The kernel's ideal reading ends from every memory, its arguments unchanged and its counters at zero. -/
theorem frame_KernelIdeal : Cert.quiescent_KernelIdeal := fun m g _ =>
  (θ_run _ _ _).mono (fun r h => ⟨fun c =>
    have k := h.1 c
    ⟨k.1, k.2.1, k.2.2.1, k.2.2.2.1, k.2.2.2.2.1, k.2.2.2.2.2.1, k.2.2.2.2.2.2.1, k.2.2.2.2.2.2.2.1⟩, h.2⟩)
    (Cert.KernelIdeal.Pool.run_read m g)

/-- The run of the kernel's ideal reading, said of the kernel's own text. -/
theorem run_Kernel (m : (ℓ : Loc Cert.Kernel.nD Cert.Kernel.τ Cert.Kernel.sig) → Buf (Elt Bits) ℓ) (g : Dev Cert.Kernel.nD → PrngReg) :
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0) := by
  rw [defs_same, main_same]
  exact (θ_run _ _ _).mono (fun r h => ⟨fun c =>
    have k := h.1 c
    ⟨k.1, k.2.1, k.2.2.1, k.2.2.2.1, k.2.2.2.2.1, k.2.2.2.2.2.1, k.2.2.2.2.2.2.1, k.2.2.2.2.2.2.2.1⟩, h.2⟩)
    (Cert.KernelIdeal.Pool.run_read m g)

/-- The kernel at its words ends from every memory, its arguments unchanged and its counters at zero. -/
theorem frame_Kernel : Cert.quiescent_Kernel := fun m g _ => run_Kernel m g

/-- The reference ends from every memory, its arguments unchanged and its counters at zero. -/
theorem frame_ReferenceIdeal : Cert.quiescent_ReferenceIdeal := fun m g _ =>
  (θ_run _ _ _).mono (fun r h => ⟨fun c => (h c).2, sem_eq_zero_of_no_sems rfl r.2⟩)
    (Cert.ReferenceIdeal.Value.run m g)

end Cert.Proof
end
-- ==== Proof.Reads.lean ====
module

public import Idealize.ShloMosaic.Lib.Routing.OpsPair
public import Idealize.ShloMosaic.Lib.Routing.Ops
public import Idealize.ShloMosaic.Lib.MatmulPlain
public import Idealize.ShloMosaic.Lib.StackMember
public import Idealize.ShloMosaic.Lib.IdealHost
public import Idealize.ShloMosaic.Lib.ValueIdxRank1
public import Idealize.ShloMosaic.Lib.WordCmp

@[expose] public section

/-!
# Indexed operations read at one element

A table read at one index word per row, an addition scattered by one index word per row (of scalars, and of rows),
and a maximum along the last axis, each at one element of its result and at any extents.
-/

namespace Cert.Pool

open Idealize.ShloMosaic Idealize.ShloMosaic.ValueIdx
open scoped BigOperators

/-! ## The gather -/

/-- The dimension numbers of `x[idx]` for `x : [G]` and one index word for each of `N` rows. -/
abbrev pickDims (G N : Nat) (wf : GatherDims.WF ⟨1, ![G]⟩ ⟨2, ![N, 1]⟩ ⟨1, ![N]⟩ [] [0] [] [0] [] 1 ![1]) :
    GatherDims ⟨1, ![G]⟩ ⟨2, ![N, 1]⟩ ⟨1, ![N]⟩ where
  offsetDims := []
  collapsedSliceDims := [0]
  operandBatchingDims := []
  startIndicesBatchingDims := []
  startIndexMap := [0]
  indexVectorDim := 1
  sliceSizes := ![1]
  wf := wf

/-- Row `n` reads the table at its index word, read signed and clamped into the table. -/
theorem gather_pick_apply {α : Type} {G N w : Nat} (hG : 0 < G)
    (wf : GatherDims.WF ⟨1, ![G]⟩ ⟨2, ![N, 1]⟩ ⟨1, ![N]⟩ [] [0] [] [0] [] 1 ![1])
    (x : (⟨1, ![G]⟩ : Shape).Idx → α) (idx : IVec ⟨2, ![N, 1]⟩ w) (n : Fin N) :
    Host.gather (pickDims G N wf) x idx (ix1 n) = x (ix1 ⟨min (idx (ix2 n 0)).toInt.toNat (G - 1), by omega⟩) := by
  unfold Host.gather
  congr 1
  funext a
  obtain rfl : a = 0 := Subsingleton.elim _ _
  refine Fin.ext ?_
  show (pickDims G N wf).start (ix1 n) idx 0 + (pickDims G N wf).batchCoord (ix1 n) 0 + (pickDims G N wf).offCoord (ix1 n) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (pickDims G N wf).startIndexMap from List.mem_singleton.mpr rfl)]
  have hsi : (pickDims G N wf).siIdx (ix1 n) ⟨List.idxOf (0 : Fin 1) (pickDims G N wf).startIndexMap,
      List.idxOf_lt_length_iff.2 (List.mem_singleton.mpr rfl)⟩ = ix2 n 0 := by
    funext b; refine Fin.ext ?_
    match b with
    | ⟨0, _⟩ => rfl
    | ⟨1, _⟩ => rfl
  rw [hsi]
  rfl

/-- A word that is a row number of the table picks that row. -/
theorem gather_pick_of_eq {α : Type} {G N w : Nat}
    (wf : GatherDims.WF ⟨1, ![G]⟩ ⟨2, ![N, 1]⟩ ⟨1, ![N]⟩ [] [0] [] [0] [] 1 ![1])
    (x : (⟨1, ![G]⟩ : Shape).Idx → α) (idx : IVec ⟨2, ![N, 1]⟩ w) (n : Fin N) (g : Fin G)
    (h : (idx (ix2 n 0)).toInt = (g.val : Int)) :
    Host.gather (pickDims G N wf) x idx (ix1 n) = x (ix1 g) := by
  rw [gather_pick_apply (Nat.lt_of_le_of_lt (Nat.zero_le _) g.isLt)]
  refine congrArg (fun k => x (ix1 k)) (Fin.ext ?_)
  show min (idx (ix2 n 0)).toInt.toNat (G - 1) = g.val
  have := g.isLt
  omega

/-! ## The scattered additions -/

/-- The dimension numbers of a scatter of `N` scalars into `[G]`, one index word each. -/
abbrev dropDims (G N : Nat) (wf : ScatterDims.WF ⟨1, ![G]⟩ ⟨2, ![N, 1]⟩ ⟨1, ![N]⟩ [] [0] [0] 1) :
    ScatterDims ⟨1, ![G]⟩ ⟨2, ![N, 1]⟩ ⟨1, ![N]⟩ where
  updateWindowDims := []
  insertedWindowDims := [0]
  scatterDimsToOperandDims := [0]
  indexVectorDim := 1
  wf := wf

/-- The dimension numbers of a scatter of `N` rows of `D` into `[G, D]`, one index word each. -/
abbrev dropRowDims (G N D : Nat) (wf : ScatterDims.WF ⟨2, ![G, D]⟩ ⟨2, ![N, 1]⟩ ⟨2, ![N, D]⟩ [1] [0] [0] 1) :
    ScatterDims ⟨2, ![G, D]⟩ ⟨2, ![N, 1]⟩ ⟨2, ![N, D]⟩ where
  updateWindowDims := [1]
  insertedWindowDims := [0]
  scatterDimsToOperandDims := [0]
  indexVectorDim := 1
  wf := wf

/-- A scattered element lands at `g` exactly when its index word is `g`. -/
theorem drop_lands {G N w : Nat} (wf : ScatterDims.WF ⟨1, ![G]⟩ ⟨2, ![N, 1]⟩ ⟨1, ![N]⟩ [] [0] [0] 1)
    (idx : IVec ⟨2, ![N, 1]⟩ w) (n : Fin N) (g : Fin G) :
    (dropDims G N wf).resultIdx? (ix1 n) idx = some (ix1 g) ↔ (idx (ix2 n 0)).toInt = (g.val : Int) := by
  have hw : (dropDims G N wf).window (ix1 n) 0 = 0 := by
    unfold ScatterDims.window
    rw [dif_neg fun h => (of_decide_eq_true (List.mem_filter.1 h).2) (List.mem_singleton.2 rfl)]
  have hs : (dropDims G N wf).start (ix1 n) idx 0 = (idx (ix2 n 0)).toInt := by
    unfold ScatterDims.start
    rw [dif_pos (show (0 : Fin 1) ∈ (dropDims G N wf).scatterDimsToOperandDims from List.mem_singleton.2 rfl)]
    refine congrArg (fun k => (idx k).toInt) (funext fun b => Fin.ext ?_)
    match b with
    | ⟨0, _⟩ => rfl
    | ⟨1, _⟩ => rfl
  rw [Routing.resultIdx?_ix1, hs, hw]
  omega

/-- An element of a scattered row lands at row `g`, column `e`, exactly when its index word is `g` and its column `e`. -/
theorem dropRow_lands {G N D w : Nat} (wf : ScatterDims.WF ⟨2, ![G, D]⟩ ⟨2, ![N, 1]⟩ ⟨2, ![N, D]⟩ [1] [0] [0] 1)
    (idx : IVec ⟨2, ![N, 1]⟩ w) (n : Fin N) (d : Fin D) (g : Fin G) (e : Fin D) :
    (dropRowDims G N D wf).resultIdx? (ix2 n d) idx = some (ix2 g e)
      ↔ (idx (ix2 n 0)).toInt = (g.val : Int) ∧ d = e := by
  have hw0 : (dropRowDims G N D wf).window (ix2 n d) 0 = 0 := by
    unfold ScatterDims.window
    rw [dif_neg fun h => (of_decide_eq_true (List.mem_filter.1 h).2) (List.mem_singleton.2 rfl)]
  have hw1 : (dropRowDims G N D wf).window (ix2 n d) 1 = d.val := by
    unfold ScatterDims.window
    rw [dif_pos (show (1 : Fin 2) ∈ (⟨2, ![G, D]⟩ : Shape).kept (dropRowDims G N D wf).insertedWindowDims from
      List.mem_filter.2 ⟨List.mem_finRange _, decide_eq_true (by show ¬ (1 : Fin 2) ∈ [(0 : Fin 2)]; decide)⟩)]
    rfl
  have hs0 : (dropRowDims G N D wf).start (ix2 n d) idx 0 = (idx (ix2 n 0)).toInt := by
    unfold ScatterDims.start
    rw [dif_pos (show (0 : Fin 2) ∈ (dropRowDims G N D wf).scatterDimsToOperandDims from List.mem_singleton.2 rfl)]
    refine congrArg (fun k => (idx k).toInt) (funext fun b => Fin.ext ?_)
    match b with
    | ⟨0, _⟩ => rfl
    | ⟨1, _⟩ => rfl
  have hs1 : (dropRowDims G N D wf).start (ix2 n d) idx 1 = 0 := by
    unfold ScatterDims.start
    rw [dif_neg (show ¬ (1 : Fin 2) ∈ (dropRowDims G N D wf).scatterDimsToOperandDims from by
      show ¬ (1 : Fin 2) ∈ [(0 : Fin 2)]; decide)]
  rw [Routing.resultIdx?_ix2, hs0, hw0, hs1, hw1, Fin.ext_iff]
  omega

/-- Element `g` after scattering scalars: what was there plus the updates whose word is `g`. -/
theorem scatter_drop_apply {G N w : Nat} (wf : ScatterDims.WF ⟨1, ![G]⟩ ⟨2, ![N, 1]⟩ ⟨1, ![N]⟩ [] [0] [0] 1)
    (x : FVec Ideal ⟨1, ![G]⟩ .f32) (idx : IVec ⟨2, ![N, 1]⟩ w) (upd : FVec Ideal ⟨1, ![N]⟩ .f32) (g : Fin G) :
    Host.scatterAdd (dropDims G N wf) x idx upd (ix1 g)
      = x (ix1 g) + ∑ n ∈ Finset.univ.filter (fun n : Fin N => (idx (ix2 n 0)).toInt = (g.val : Int)), upd (ix1 n) := by
  show x (ix1 g) + _ = _
  refine congrArg (x (ix1 g) + ·) ?_
  rw [Finset.sum_filter, Finset.sum_filter, ← Equiv.sum_comp (idxEquiv1 (n := N)).symm]
  refine Finset.sum_congr rfl fun n _ => ?_
  exact if_congr (drop_lands wf idx n g) rfl rfl

/-- Element `(g, e)` after scattering rows: what was there plus column `e` of the rows whose word is `g`. -/
theorem scatter_dropRow_apply {G N D w : Nat} (wf : ScatterDims.WF ⟨2, ![G, D]⟩ ⟨2, ![N, 1]⟩ ⟨2, ![N, D]⟩ [1] [0] [0] 1)
    (x : FVec Ideal ⟨2, ![G, D]⟩ .f32) (idx : IVec ⟨2, ![N, 1]⟩ w) (upd : FVec Ideal ⟨2, ![N, D]⟩ .f32) (g : Fin G) (e : Fin D) :
    Host.scatterAdd (dropRowDims G N D wf) x idx upd (ix2 g e)
      = x (ix2 g e) + ∑ n ∈ Finset.univ.filter (fun n : Fin N => (idx (ix2 n 0)).toInt = (g.val : Int)), upd (ix2 n e) := by
  show x (ix2 g e) + _ = _
  refine congrArg (x (ix2 g e) + ·) ?_
  rw [Finset.sum_filter, Finset.sum_filter, sum_idx2]
  refine Finset.sum_congr rfl fun n _ => ?_
  refine (Finset.sum_congr rfl fun d _ => if_congr (dropRow_lands wf idx n d g e) rfl rfl).trans ?_
  by_cases h : (idx (ix2 n 0)).toInt = (g.val : Int)
  · simp only [h, true_and, if_true]
    rw [Finset.sum_ite_eq' Finset.univ e, if_pos (Finset.mem_univ _)]
  · simp only [h, false_and, if_false, Finset.sum_const_zero]

/-! ## The maximum along the last axis -/

/-- A running maximum from `a` is the larger of `a` and the supremum. -/
theorem foldl_max_sup {ι : Type*} (l : List ι) (f : ι → EReal) (a : EReal) :
    l.foldl (fun r n => max r (f n)) a = a ⊔ (l.foldr (fun n r => f n ⊔ r) ⊥) := by
  induction l generalizing a with
  | nil => simp
  | cons b l ih => rw [List.foldl_cons, ih, List.foldr_cons, ← sup_assoc]

/-- A running maximum is at most `c` exactly when every term is. -/
theorem le_foldr_iff {ι : Type*} (l : List ι) (f : ι → EReal) (c : EReal) :
    l.foldr (fun n r => f n ⊔ r) ⊥ ≤ c ↔ ∀ n ∈ l, f n ≤ c := by
  induction l with
  | nil => simp
  | cons b l ih => rw [List.foldr_cons, sup_le_iff, ih, List.forall_mem_cons]

/-- Which indices a reduction of the last axis folds into `g`. -/
theorem drop_last {G N : Nat} (h : (⟨2, ![G, N]⟩ : Shape).ReducesTo [1] ⟨1, ![G]⟩) (i : (⟨2, ![G, N]⟩ : Shape).Idx) (g : Fin G) :
    h.drop i = ix1 g ↔ (i 0).val = g.val := by
  constructor
  · intro e
    exact congrArg Fin.val (congrFun e 0)
  · intro e
    funext b
    apply Fin.ext
    match b with
    | ⟨0, _⟩ => exact e

/-- A maximum along the last axis from `-∞`, read at row `g`, is the supremum of the row. -/
theorem reduceMax_apply {G N : Nat} {u : Shape} (x : FVec Ideal ⟨2, ![G, N]⟩ .f32) (init : FVec Ideal u .f32)
    (h : (⟨2, ![G, N]⟩ : Shape).ReducesTo [1] ⟨1, ![G]⟩) (hu : 0 < u.numel) (hi : ∀ j, init j = (⊥ : EReal)) (g : Fin G) :
    Host.reduce FloatOps.maximumf x init h hu (ix1 g) = Finset.univ.sup fun n : Fin N => (x (ix2 g n) : EReal) := by
  unfold Host.reduce
  rw [hi]
  refine (foldl_max_sup _ (fun n => (x ((⟨2, ![G, N]⟩ : Shape).rowMajor.symm n) : EReal)) ⊥).trans ?_
  rw [bot_sup_eq]
  refine eq_of_forall_ge_iff fun c => ?_
  rw [le_foldr_iff, Finset.sup_le_iff]
  constructor
  · intro k n _
    have := k ((⟨2, ![G, N]⟩ : Shape).rowMajor (ix2 g n)) (List.mem_filter.2 ⟨List.mem_finRange _, by
      rw [Equiv.symm_apply_apply]
      exact decide_eq_true ((drop_last h (ix2 g n) g).2 rfl)⟩)
    rwa [Equiv.symm_apply_apply] at this
  · intro k n hn
    have e := (drop_last h _ g).1 (of_decide_eq_true (List.mem_filter.1 hn).2)
    have e' : (⟨2, ![G, N]⟩ : Shape).rowMajor.symm n = ix2 g ((⟨2, ![G, N]⟩ : Shape).rowMajor.symm n 1) := by
      conv_lhs => rw [eq_ix2 ((⟨2, ![G, N]⟩ : Shape).rowMajor.symm n)]
      exact congrArg (fun k => ix2 k _) (Fin.ext e)
    rw [e']
    exact k _ (Finset.mem_univ _)

end Cert.Pool

end
-- ==== Proof.Softmax.lean ====
module

public import Idealize.ShloMosaic.PureOps.Ideal
public import Mathlib.Data.EReal.Operations
public import Mathlib.Data.EReal.Inv
public import Mathlib.Algebra.BigOperators.Group.Finset.Basic

@[expose] public section

/-!
# The softmax quotient does not see the shift

The kernel divides `∑ x·exp s` by `∑ exp s` over the nodes of one graph.  The reference adds a real bias to
every score, takes the largest of them away before exponentiating, and normalises each weight before summing.
Over the extended reals the two agree at every score and every feature, infinite ones included.
-/

namespace Cert.KernelIdeal.Pool

open Idealize.ShloMosaic
open scoped BigOperators

/-- The maximum as the reference subtracts it: `0` unless it is a real number. -/
noncomputable def safeMax (m : EReal) : EReal := if max m (-m) < ⊤ then m else 0

/-- A denominator as both programs divide by it: `1` unless it is positive. -/
noncomputable def safeDen (d : EReal) : EReal := if 0 < d then d else 1

/-- `exp` of minus infinity is 0. -/
theorem exp_bot : Ideal.exp ⊥ = 0 := rfl

/-- `exp` is nowhere negative. -/
theorem exp_nonneg (x : EReal) : 0 ≤ Ideal.exp x := by
  induction x using EReal.rec with
  | bot => exact le_refl _
  | coe r => exact EReal.coe_nonneg.2 (Real.exp_nonneg r)
  | top => exact le_top

/-- A real factor goes into a finite sum of extended reals. -/
theorem sum_mul_real {ι : Type*} (S : Finset ι) (f : ι → EReal) (r : ℝ) (hr : 0 ≤ r) :
    (∑ n ∈ S, f n) * (r : EReal) = ∑ n ∈ S, f n * (r : EReal) := by
  classical
  induction S using Finset.induction_on with
  | empty => simp
  | insert a T ha ih =>
    rw [Finset.sum_insert ha, Finset.sum_insert ha, ← ih,
      EReal.right_distrib_of_nonneg_of_ne_top (EReal.coe_nonneg.2 hr) (EReal.coe_ne_top r)]

/-- A sum of real numbers, read in the extended reals. -/
theorem sum_coe {ι : Type*} (S : Finset ι) (f : ι → ℝ) :
    (∑ n ∈ S, (f n : EReal)) = ((∑ n ∈ S, f n : ℝ) : EReal) := by
  classical
  induction S using Finset.induction_on with
  | empty => simp
  | insert a T ha ih => rw [Finset.sum_insert ha, Finset.sum_insert ha, ih, EReal.coe_add]

/-- A sum of non-negative terms one of which is `⊤` is `⊤`. -/
theorem sum_eq_top {ι : Type*} (S : Finset ι) (f : ι → EReal) (hf : ∀ n, 0 ≤ f n) (a : ι) (ha : a ∈ S)
    (h : f a = ⊤) : ∑ n ∈ S, f n = ⊤ :=
  top_le_iff.1 (h ▸ Finset.single_le_sum (fun n _ => hf n) ha)

/-- An infinite denominator is kept. -/
theorem safeDen_top : safeDen ⊤ = ⊤ := if_pos EReal.zero_lt_top
/-- A zero denominator is replaced by 1. -/
theorem safeDen_zero : safeDen 0 = 1 := if_neg (lt_irrefl _)

/-- Anything over infinity is 0. -/
theorem div_top (x : EReal) : Ideal.div x ⊤ = 0 := by
  simp [Ideal.div]

/-- 0 over 1 is 0. -/
theorem div_one_zero : Ideal.div 0 1 = 0 := by
  simp [Ideal.div]

/-- A positive real denominator divides by multiplying with its inverse. -/
theorem div_safeDen_real (x : EReal) {d : ℝ} (hd : 0 < d) :
    Ideal.div x (safeDen (d : EReal)) = x * ((d⁻¹ : ℝ) : EReal) := by
  have h : safeDen (d : EReal) = (d : EReal) := if_pos (EReal.coe_pos.2 hd)
  rw [h, Ideal.div, if_neg (by exact_mod_cast hd.ne'), EReal.coe_inv]

/-- A sum with a real number is minus infinity only if the other term is. -/
theorem add_real_eq_bot {s : EReal} {b : ℝ} (h : s + (b : EReal) = ⊥) : s = ⊥ := by
  rcases EReal.add_eq_bot_iff.1 h with h | h
  · exact h
  · exact absurd h (EReal.coe_ne_bot b)

/-- A sum with a real number is infinity only if the other term is. -/
theorem add_real_eq_top {s : EReal} {b : ℝ} (h : s + (b : EReal) = ⊤) : s = ⊤ := by
  induction s using EReal.rec with
  | bot => simp at h
  | coe r => exact absurd h (by rw [← EReal.coe_add]; exact EReal.coe_ne_top _)
  | top => rfl

/-- A score whose shifted value is at most a real number has a real exponential, and taking the bias and the
maximum away scales it by `exp (b - M)`. -/
theorem exp_scale (s : EReal) (b M : ℝ) (h : s + (b : EReal) ≤ (M : EReal)) :
    ∃ e : ℝ, 0 ≤ e ∧ Ideal.exp (s + (b : EReal) - (M : EReal)) = (e : EReal) ∧
      Ideal.exp s = ((Real.exp (M - b) * e : ℝ) : EReal) := by
  induction s using EReal.rec with
  | bot => exact ⟨0, le_refl _, by simp [exp_bot], by simp [exp_bot]⟩
  | coe r =>
    refine ⟨Real.exp (r + b - M), Real.exp_nonneg _, ?_, ?_⟩
    · rw [← EReal.coe_add, ← EReal.coe_sub]; rfl
    · rw [← Real.exp_add]
      have : M - b + (r + b - M) = r := by ring
      rw [this]; rfl
  | top =>
    rw [EReal.top_add_of_ne_bot (EReal.coe_ne_bot b)] at h
    exact absurd (top_le_iff.1 h) (EReal.coe_ne_top M)

/-- **The two softmax quotients agree** over the nodes `S` of a graph, scores `s`, features `x`, bias `b`. -/
theorem softmax_shift {ι : Type*} (S : Finset ι) (s x : ι → EReal) (b : ℝ) :
    Ideal.div (∑ n ∈ S, x n * Ideal.exp (s n)) (safeDen (∑ n ∈ S, Ideal.exp (s n)))
      = ∑ n ∈ S, Ideal.div (Ideal.exp (s n + (b : EReal) - safeMax (S.sup fun n => s n + (b : EReal))))
          (safeDen (∑ n ∈ S, Ideal.exp (s n + (b : EReal) - safeMax (S.sup fun n => s n + (b : EReal))))) * x n := by
  classical
  generalize hM : (S.sup fun n => s n + (b : EReal)) = M
  have hle : ∀ n ∈ S, s n + (b : EReal) ≤ M := fun n hn => hM ▸ Finset.le_sup (f := fun n => s n + (b : EReal)) hn
  induction M using EReal.rec with
  | bot =>
    have hs : ∀ n ∈ S, s n = ⊥ := fun n hn => add_real_eq_bot (le_bot_iff.1 (hle n hn))
    have h0 : safeMax ⊥ = 0 := by simp [safeMax]
    have e1 : ∀ n ∈ S, Ideal.exp (s n) = 0 := fun n hn => by rw [hs n hn]; rfl
    have e2 : ∀ n ∈ S, Ideal.exp (s n + (b : EReal) - safeMax ⊥) = 0 := fun n hn => by
      rw [hs n hn, h0]; simp [exp_bot]
    rw [Finset.sum_congr rfl e1, Finset.sum_congr rfl e2,
      Finset.sum_congr rfl (fun n hn => by rw [e1 n hn, mul_zero]),
      Finset.sum_const_zero, safeDen_zero, div_one_zero]
    exact (Finset.sum_eq_zero fun n hn => by rw [e2 n hn, div_one_zero, zero_mul]).symm
  | coe M =>
    have h0 : safeMax (M : EReal) = (M : EReal) := by
      refine if_pos (max_lt (EReal.coe_lt_top M) ?_)
      rw [← EReal.coe_neg]; exact EReal.coe_lt_top _
    rw [h0]
    have hne : S.Nonempty := by
      by_contra h
      rw [Finset.not_nonempty_iff_eq_empty.1 h, Finset.sup_empty] at hM
      exact EReal.coe_ne_bot M hM.symm
    obtain ⟨a, ha, hmax⟩ := Finset.exists_mem_eq_sup S hne (fun n => s n + (b : EReal))
    have hex : ∀ n, ∃ e : ℝ, n ∈ S → (0 ≤ e ∧ Ideal.exp (s n + (b : EReal) - (M : EReal)) = (e : EReal) ∧
        Ideal.exp (s n) = ((Real.exp (M - b) * e : ℝ) : EReal)) := fun n => by
      by_cases hn : n ∈ S
      · obtain ⟨e, he⟩ := exp_scale (s n) b M (hle n hn)
        exact ⟨e, fun _ => he⟩
      · exact ⟨0, fun h => absurd h hn⟩
    choose e he using hex
    have hc : 0 < Real.exp (M - b) := Real.exp_pos _
    generalize Real.exp (M - b) = c at he hc
    have hea : e a = 1 := by
      have h1 := (he a ha).2.1
      rw [← hmax, hM, ← EReal.coe_sub, sub_self] at h1
      have h2 : Ideal.exp ((0 : ℝ) : EReal) = ((1 : ℝ) : EReal) := by
        change ((Real.exp 0 : ℝ) : EReal) = _
        rw [Real.exp_zero]
      rw [h2] at h1
      exact (EReal.coe_eq_coe_iff.1 h1).symm
    have hd : 0 < ∑ n ∈ S, e n :=
      lt_of_lt_of_le (by rw [hea]; exact one_pos)
        (Finset.single_le_sum (f := e) (fun n hn => (he n hn).1) ha)
    rw [Finset.sum_congr rfl (fun n hn => (he n hn).2.2),
      Finset.sum_congr rfl (fun n hn => (he n hn).2.1),
      Finset.sum_congr rfl (fun n hn => by rw [(he n hn).2.2]), sum_coe, sum_coe, ← Finset.mul_sum,
      div_safeDen_real _ (mul_pos hc hd), sum_mul_real _ _ _ (inv_nonneg.2 (mul_pos hc hd).le)]
    refine Finset.sum_congr rfl fun n hn => ?_
    rw [(he n hn).2.1, div_safeDen_real _ hd, mul_assoc, ← EReal.coe_mul, ← EReal.coe_mul, mul_comm (x n)]
    congr 2
    field_simp
  | top =>
    have hne : S.Nonempty := by
      by_contra h
      rw [Finset.not_nonempty_iff_eq_empty.1 h, Finset.sup_empty] at hM
      exact bot_ne_top hM
    obtain ⟨a, ha, hmax⟩ := Finset.exists_mem_eq_sup S hne (fun n => s n + (b : EReal))
    have hs : s a = ⊤ := add_real_eq_top (b := b) (by rw [← hmax, hM])
    have h0 : safeMax ⊤ = 0 := by simp [safeMax]
    have d1 : ∑ n ∈ S, Ideal.exp (s n) = ⊤ := sum_eq_top S _ (fun n => exp_nonneg _) a ha (by rw [hs]; rfl)
    have d2 : ∑ n ∈ S, Ideal.exp (s n + (b : EReal) - safeMax ⊤) = ⊤ :=
      sum_eq_top S _ (fun n => exp_nonneg _) a ha (by
        rw [hs, h0, EReal.top_add_of_ne_bot (EReal.coe_ne_bot b), sub_zero]; rfl)
    rw [d1, d2, safeDen_top, div_top]
    exact (Finset.sum_eq_zero fun n hn => by rw [div_top, zero_mul]).symm

end Cert.KernelIdeal.Pool

end
-- ==== Proof.RefPool.lean ====
module

public import proofs.«01_k».proof.Proof.Reads
public import proofs.«01_k».proof.Proof.Softmax

@[expose] public section

/-!
# The reference's pooled sum, read at one graph and one feature

The reference's operations at any number `N` of nodes, stage by stage, and what each computes at one element: the
score of a node, the largest score of a graph, the shifted exponentials, their sum over the graph, and the sum of the
normalised weights times the features.  The two node types of the reference are instances of these.
-/

noncomputable section

namespace Cert.Pool

open Idealize.ShloMosaic Idealize.ShloMosaic.ValueIdx Idealize.ShloMosaic.Routing
open Cert.KernelIdeal.Pool (safeMax safeDen)
open scoped BigOperators

/-- A node's attention score without the last bias. -/
def score {N : ℕ} (x : FVec Ideal (shape2 N 128) .f32) (W1 : FVec Ideal (shape2 128 64) .f32) (b1 : FVec Ideal (shape1 64) .f32)
    (w2 : FVec Ideal (shape2 64 1) .f32) (n : Fin N) : EReal :=
  ∑ k : Fin 64, Ideal.tanh (∑ j : Fin 128, x (ix2 n j) * W1 (ix2 j k) + b1 (ix1 k)) * w2 (ix2 k 0)

/-- The nodes of graph `g`. -/
def members {N : ℕ} (batch : IVec (shape1 N) 32) (g : Fin 256) : Finset (Fin N) :=
  Finset.univ.filter fun n => (batch (ix1 n)).toInt = (g.val : Int)

/-- A word equals a graph's number exactly when its signed value does. -/
theorem word_eq_iff (v : BitVec 32) (g : Fin 256) : v = BitVec.ofNat 32 g.val ↔ v.toInt = (g.val : Int) := by
  have e : (BitVec.ofNat 32 g.val).toInt = (g.val : Int) :=
    WordCmp.toInt_ofNat_of_lt (by have := g.isLt; show g.val < 2 ^ 31; omega)
  rw [← e]
  exact ⟨fun h => congrArg _ h, fun h => BitVec.eq_of_toInt_eq h⟩

/-- The shape relations of the reference's operations at `N` nodes. -/
structure Shapes (N : ℕ) : Prop where
  b1a : (shape1 64).BroadcastsInDim (shape2 1 64) (![1] : Fin 1 → Fin (shape2 1 64).rank)
  b1b : (shape2 1 64).BroadcastsInDim (shape2 N 64) (![0, 1] : Fin 2 → Fin (shape2 N 64).rank)
  b2a : (shape1 1).BroadcastsInDim (shape2 1 1) (![1] : Fin 1 → Fin (shape2 1 1).rank)
  b2b : (shape2 1 1).BroadcastsInDim (shape2 N 1) (![0, 1] : Fin 2 → Fin (shape2 N 1).rank)
  cast : (shape2 N 1).ShapeCasts (shape1 N)
  row : (shape1 N).BroadcastsInDim (shape2 1 N) (![1] : Fin 1 → Fin (shape2 1 N).rank)
  rows : (shape2 1 N).BroadcastsInDim (shape2 256 N) (![0, 1] : Fin 2 → Fin (shape2 256 N).rank)
  graphs : (shape2 256 1).BroadcastsInDim (shape2 256 N) (![0, 1] : Fin 2 → Fin (shape2 256 N).rank)
  fill : shape0.BroadcastsInDim (shape2 256 N) (![] : Fin 0 → Fin (shape2 256 N).rank)
  red : (shape2 256 N).ReducesTo [1] (shape1 256)
  unit : 0 < shape0.numel
  s256 : shape0.BroadcastsInDim (shape1 256) (![] : Fin 0 → Fin (shape1 256).rank)
  sN : shape0.BroadcastsInDim (shape1 N) (![] : Fin 0 → Fin (shape1 N).rank)
  col : (shape1 N).BroadcastsInDim (shape2 N 1) (![0] : Fin 1 → Fin (shape2 N 1).rank)
  cols : (shape2 N 1).BroadcastsInDim (shape2 N 128) (![0, 1] : Fin 2 → Fin (shape2 N 128).rank)
  sOut : shape0.BroadcastsInDim (shape2 256 128) (![] : Fin 0 → Fin (shape2 256 128).rank)
  pick : GatherDims.WF (shape1 256) (shape2 N 1) (shape1 N) [] [0] [] [0] [] 1 ![1]
  drop : ScatterDims.WF (shape1 256) (shape2 N 1) (shape1 N) [] [0] [0] 1
  dropRow : ScatterDims.WF (shape2 256 128) (shape2 N 1) (shape2 N 128) [1] [0] [0] 1

section Stages

variable {N : ℕ} (H : Shapes N) (x : FVec Ideal (shape2 N 128) .f32) (batch : IVec (shape1 N) 32)
  (W1 : FVec Ideal (shape2 128 64) .f32) (b1 : FVec Ideal (shape1 64) .f32) (w2 : FVec Ideal (shape2 64 1) .f32)
  (b2 : FVec Ideal (shape1 1) .f32)

/-- The scores, the last bias added. -/
def refScore : FVec Ideal (shape1 N) .f32 :=
  shapeCast _ (addf (Host.dotGeneral (DotDims.plain N 64 1) none (Host.tanh (addf (Host.dotGeneral (DotDims.plain N 128 64) none x W1)
    (broadcastInDim (shape2 N 64) ![0, 1] H.b1b (broadcastInDim (shape2 1 64) ![1] H.b1a b1)))) w2)
    (broadcastInDim (shape2 N 1) ![0, 1] H.b2b (broadcastInDim (shape2 1 1) ![1] H.b2a b2))) H.cast

/-- The largest score of each graph. -/
def refMax (s : FVec Ideal (shape1 N) .f32) : FVec Ideal (shape1 256) .f32 :=
  Host.reduce FloatOps.maximumf (select (cmpi .eq (broadcastInDim (shape2 256 N) ![0, 1] H.rows (broadcastInDim (shape2 1 N) ![1] H.row batch))
    (broadcastInDim (shape2 256 N) ![0, 1] H.graphs (iotaInDim (shape2 256 1) 32 0)))
    (broadcastInDim (shape2 256 N) ![0, 1] H.rows (broadcastInDim (shape2 1 N) ![1] H.row s))
    (broadcastInDim (shape2 256 N) ![] H.fill (id (constant shape0 .f32 0xFF800000#32))))
    (constant shape0 .f32 0xFF800000#32) H.red H.unit

/-- The maximum to subtract. -/
def refSafe (M : FVec Ideal (shape1 256) .f32) : FVec Ideal (shape1 256) .f32 :=
  select (cmpf .olt (Host.absf M) (broadcastInDim (shape1 256) ![] H.s256 (constant shape0 .f32 0x7F800000#32))) M
    (broadcastInDim (shape1 256) ![] H.s256 (id (constant shape0 .f32 0x00000000#32)))

/-- The index words, a negative one wrapped. -/
def refIdx : IVec (shape2 N 1) 32 :=
  broadcastInDim (shape2 N 1) ![0] H.col (select (cmpi .slt batch (broadcastInDim (shape1 N) ![] H.sN (constantI shape0 32 0#32)))
    (addi batch (broadcastInDim (shape1 N) ![] H.sN (constantI shape0 32 256#32))) batch)

/-- The shifted exponentials. -/
def refExp (s : FVec Ideal (shape1 N) .f32) (m : FVec Ideal (shape1 256) .f32) : FVec Ideal (shape1 N) .f32 :=
  Host.exp (subf s (Host.gather (pickDims 256 N H.pick) m (refIdx H batch)))

/-- Their sum over each graph. -/
def refDen (e : FVec Ideal (shape1 N) .f32) : FVec Ideal (shape1 256) .f32 :=
  Host.scatterAdd (dropDims 256 N H.drop) (broadcastInDim (shape1 256) ![] H.s256 (constant shape0 .f32 0x00000000#32))
    (broadcastInDim (shape2 N 1) ![0] H.col batch) e

/-- The sum to divide by. -/
def refDenSafe (d : FVec Ideal (shape1 256) .f32) : FVec Ideal (shape1 256) .f32 :=
  select (cmpf .ogt d (broadcastInDim (shape1 256) ![] H.s256 (constant shape0 .f32 0x00000000#32))) d
    (broadcastInDim (shape1 256) ![] H.s256 (id (constant shape0 .f32 0x3F800000#32)))

/-- The weighted features summed over each graph. -/
def refSum (e : FVec Ideal (shape1 N) .f32) (d : FVec Ideal (shape1 256) .f32) : FVec Ideal (shape2 256 128) .f32 :=
  Host.scatterAdd (dropRowDims 256 N 128 H.dropRow) (broadcastInDim (shape2 256 128) ![] H.sOut (constant shape0 .f32 0x00000000#32))
    (broadcastInDim (shape2 N 1) ![0] H.col batch)
    (mulf (broadcastInDim (shape2 N 128) ![0, 1] H.cols (broadcastInDim (shape2 N 1) ![0] H.col
      (Host.divf e (Host.gather (pickDims 256 N H.pick) d (refIdx H batch))))) x)

/-- The whole of one node type. -/
def refPool : FVec Ideal (shape2 256 128) .f32 :=
  refSum H x batch
    (refExp H batch (refScore H x W1 b1 w2 b2) (refSafe H (refMax H batch (refScore H x W1 b1 w2 b2))))
    (refDenSafe H (refDen H batch (refExp H batch (refScore H x W1 b1 w2 b2) (refSafe H (refMax H batch (refScore H x W1 b1 w2 b2))))))

/-- An elementwise sum, at one element. -/
theorem addf_at {s : Shape} (a b : FVec Ideal s .f32) (i : s.Idx) : addf a b i = (a i + b i : EReal) := rfl
/-- The host's elementwise `tanh`, at one element. -/
theorem hostTanh_at {s : Shape} (a : FVec Ideal s .f32) (i : s.Idx) : Host.tanh a i = Ideal.tanh (a i) := rfl
/-- An elementwise product, at one element. -/
theorem mulf_at {s : Shape} (a b : FVec Ideal s .f32) (i : s.Idx) : mulf a b i = (a i * b i : EReal) := rfl
/-- The host's elementwise absolute value, at one element. -/
theorem absf_at {s : Shape} (a : FVec Ideal s .f32) (i : s.Idx) : Host.absf a i = (max (a i) (-(a i)) : EReal) := rfl
/-- An elementwise comparison, at one element. -/
theorem cmpf_at {s : Shape} (p : CmpFPredicate) (a b : FVec Ideal s .f32) (i : s.Idx) : cmpf p a b i = Ideal.cmp p (a i) (b i) := rfl
/-- A constant, at one element. -/
theorem constant_at {s : Shape} (b : BitVec 32) (i : s.Idx) : (constant s .f32 b : FVec Ideal s .f32) i = Ideal.ofBits .f32 b := rfl
/-- The comparison "less than" as a one-bit word. -/
theorem cmp_olt (a b : EReal) : Ideal.cmp .olt a b = BitVec.ofBool (decide (a < b)) := rfl
/-- The comparison "greater than" as a one-bit word. -/
theorem cmp_ogt (a b : EReal) : Ideal.cmp .ogt a b = BitVec.ofBool (decide (b < a)) := rfl

/-- The reference's score of a node: the common score and `b2`. -/
theorem refScore_apply (n : Fin N) : refScore H x W1 b1 w2 b2 (ix1 n) = score x W1 b1 w2 n + b2 (ix1 0) := by
  unfold refScore
  rw [cast21 _ H.cast n (0 : Fin 1) n (by show n.val = n.val * 1 + 0; omega)]
  rw [addf_at, StackMember.dotGeneral_plain_apply, bcCols H.b2a H.b2b b2 n 0]
  refine congrArg (· + b2 (ix1 0)) (Finset.sum_congr rfl fun k _ => ?_)
  rw [hostTanh_at, addf_at, StackMember.dotGeneral_plain_apply, bcCols H.b1a H.b1b b1 n k]

/-- The word of minus infinity is `⊥`. -/
theorem ofBits_bot : (FloatOps.ofBits .f32 0xFF800000#32 : Ideal .f32) = (⊥ : EReal) := by
  show Ideal.ieee 8 23 (0xFF800000#32) = ⊥
  simp [Ideal.ieee]

/-- The word of infinity is `⊤`. -/
theorem ofBits_top' : Ideal.ofBits .f32 0x7F800000#32 = (⊤ : EReal) := by
  show Ideal.ieee 8 23 (0x7F800000#32) = ⊤
  simp [Ideal.ieee]

/-- The reference's maximum over the nodes of a graph. -/
theorem refMax_apply (s : FVec Ideal (shape1 N) .f32) (g : Fin 256) :
    refMax H batch s (ix1 g) = (members batch g).sup fun n => (s (ix1 n) : EReal) := by
  unfold refMax
  rw [reduceMax_apply _ (constant shape0 .f32 0xFF800000#32) H.red H.unit (fun _ => ofBits_bot) g]
  refine eq_of_forall_ge_iff fun c => ?_
  rw [Finset.sup_le_iff, Finset.sup_le_iff]
  have key : ∀ n : Fin N, (select (cmpi .eq (broadcastInDim (shape2 256 N) ![0, 1] H.rows (broadcastInDim (shape2 1 N) ![1] H.row batch))
      (broadcastInDim (shape2 256 N) ![0, 1] H.graphs (iotaInDim (shape2 256 1) 32 0)))
      (broadcastInDim (shape2 256 N) ![0, 1] H.rows (broadcastInDim (shape2 1 N) ![1] H.row s))
      (broadcastInDim (shape2 256 N) ![] H.fill (id (constant shape0 .f32 0xFF800000#32)))) (ix2 g n)
      = if (batch (ix1 n)).toInt = (g.val : Int) then (s (ix1 n) : EReal) else ⊥ := fun n => by
    have hi : broadcastInDim (shape2 256 N) ![0, 1] H.graphs (iotaInDim (shape2 256 1) 32 0) (ix2 g n) = BitVec.ofNat 32 g.val := by
      refine (broadcastInDim_apply _ H.graphs _ _ (ix2 g (0 : Fin 1)) fun a => ?_).trans rfl
      match a with
      | ⟨0, _⟩ => show g.val = if (256 : ℕ) = 1 then 0 else g.val; rw [if_neg (by omega)]
      | ⟨1, _⟩ => show (0 : ℕ) = if (1 : ℕ) = 1 then 0 else n.val; rw [if_pos rfl]
    rw [WordCmp.select_at, WordCmp.cmpi_at, hi, bcCols H.row H.rows batch g n, bcCols H.row H.rows s g n, bc0, WordCmp.cmpi_eq_eq,
      WordCmp.select_decide]
    exact if_congr (word_eq_iff _ g) rfl ofBits_bot
  constructor
  · intro h n hn
    have := h n (Finset.mem_univ n)
    rw [key n, if_pos (Finset.mem_filter.1 hn).2] at this
    exact this
  · intro h n _
    rw [key n]
    split
    · next q => exact h n (Finset.mem_filter.2 ⟨Finset.mem_univ n, q⟩)
    · exact bot_le

/-- The maximum, or 0 where it is infinite. -/
theorem refSafe_apply (M : FVec Ideal (shape1 256) .f32) (g : Fin 256) : refSafe H M (ix1 g) = safeMax (M (ix1 g)) := by
  unfold refSafe
  rw [WordCmp.select_at, bc0, cmpf_at, bc0, absf_at, id, constant_at, constant_at, ofBits_top', Ideal.ofBits_zero_f32, cmp_olt,
    WordCmp.select_decide]
  rfl

/-- The look-up index of a node whose word is a graph's number is that number. -/
theorem refIdx_apply (n : Fin N) (g : Fin 256) (h : (batch (ix1 n)).toInt = (g.val : Int)) :
    (refIdx H batch (ix2 n 0)).toInt = (g.val : Int) := by
  unfold refIdx
  rw [bcCol H.col, WordCmp.select_at, WordCmp.cmpi_at, bc0]
  show (Scalar.select (IntOp.cmpi .slt (batch (ix1 n)) 0#32) _ (batch (ix1 n))).toInt = _
  rw [wrap_of_lt _ _ ((WordCmp.toInt_nonneg_iff_lt_half _).1 (by rw [h]; exact Int.natCast_nonneg _)), h]

/-- The reference's shifted exponential of a node of graph `g`. -/
theorem refExp_apply (s : FVec Ideal (shape1 N) .f32) (m : FVec Ideal (shape1 256) .f32) (g : Fin 256) (n : Fin N)
    (hn : n ∈ members batch g) : refExp H batch s m (ix1 n) = Ideal.exp (s (ix1 n) - m (ix1 g)) := by
  unfold refExp
  show Ideal.exp (s (ix1 n) - Host.gather (pickDims 256 N H.pick) m (refIdx H batch) (ix1 n)) = _
  rw [gather_pick_of_eq H.pick m _ n g (refIdx_apply H batch n g (Finset.mem_filter.1 hn).2)]

/-- The nodes whose index column is `g` are the nodes of graph `g`. -/
theorem col_filter (g : Fin 256) :
    (Finset.univ.filter fun n : Fin N => (broadcastInDim (shape2 N 1) ![0] H.col batch (ix2 n 0)).toInt = (g.val : Int)) = members batch g :=
  Finset.filter_congr fun n _ => by rw [bcCol H.col]

/-- The reference's sum of exponentials over a graph. -/
theorem refDen_apply (e : FVec Ideal (shape1 N) .f32) (g : Fin 256) :
    refDen H batch e (ix1 g) = ∑ n ∈ members batch g, (e (ix1 n) : EReal) := by
  unfold refDen
  rw [scatter_drop_apply, col_filter H, bc0]
  show Ideal.ofBits .f32 0x00000000#32 + _ = _
  rw [Ideal.ofBits_zero_f32, zero_add]

/-- That sum, or 1 where it is not positive. -/
theorem refDenSafe_apply (d : FVec Ideal (shape1 256) .f32) (g : Fin 256) : refDenSafe H d (ix1 g) = safeDen (d (ix1 g)) := by
  unfold refDenSafe
  rw [WordCmp.select_at, bc0, cmpf_at, bc0, id, constant_at, constant_at, Ideal.ofBits_one_f32, Ideal.ofBits_zero_f32, cmp_ogt,
    WordCmp.select_decide]
  rfl

/-- The reference's weighted sum of features over a graph. -/
theorem refSum_apply (e : FVec Ideal (shape1 N) .f32) (d : FVec Ideal (shape1 256) .f32) (g : Fin 256) (c : Fin 128) :
    refSum H x batch e d (ix2 g c) = ∑ n ∈ members batch g, Ideal.div (e (ix1 n)) (d (ix1 g)) * x (ix2 n c) := by
  unfold refSum
  rw [scatter_dropRow_apply, col_filter H, bc0]
  show Ideal.ofBits .f32 0x00000000#32 + _ = _
  rw [Ideal.ofBits_zero_f32, zero_add]
  refine Finset.sum_congr rfl fun n hn => ?_
  rw [mulf_at, bcRows H.col H.cols _ n c]
  show Ideal.div (e (ix1 n)) (Host.gather (pickDims 256 N H.pick) d (refIdx H batch) (ix1 n)) * _ = _
  rw [gather_pick_of_eq H.pick d _ n g (refIdx_apply H batch n g (Finset.mem_filter.1 hn).2)]

/-- One node type of the reference at graph `g` and feature `c`, with a real last bias `b`: the kernel's quotient. -/
theorem refPool_apply (b : ℝ) (hb : b2 (ix1 0) = (b : EReal)) (g : Fin 256) (c : Fin 128) :
    refPool H x batch W1 b1 w2 b2 (ix2 g c)
      = Ideal.div (∑ n ∈ members batch g, x (ix2 n c) * Ideal.exp (score x W1 b1 w2 n))
          (safeDen (∑ n ∈ members batch g, Ideal.exp (score x W1 b1 w2 n))) := by
  have hs : ∀ n, refScore H x W1 b1 w2 b2 (ix1 n) = score x W1 b1 w2 n + (b : EReal) := fun n => by rw [refScore_apply, hb]
  have hm : refSafe H (refMax H batch (refScore H x W1 b1 w2 b2)) (ix1 g)
      = safeMax ((members batch g).sup fun n => score x W1 b1 w2 n + (b : EReal)) := by
    rw [refSafe_apply, refMax_apply]
    exact congrArg safeMax (Finset.sup_congr rfl fun n _ => hs n)
  have he : ∀ n ∈ members batch g, refExp H batch (refScore H x W1 b1 w2 b2) (refSafe H (refMax H batch (refScore H x W1 b1 w2 b2))) (ix1 n)
      = Ideal.exp (score x W1 b1 w2 n + (b : EReal) - safeMax ((members batch g).sup fun n => score x W1 b1 w2 n + (b : EReal))) := fun n hn => by
    rw [refExp_apply H batch _ _ g n hn, hs n, hm]
  rw [Cert.KernelIdeal.Pool.softmax_shift (members batch g) (score x W1 b1 w2) (fun n => x (ix2 n c)) b]
  unfold refPool
  rw [refSum_apply, refDenSafe_apply, refDen_apply, Finset.sum_congr rfl he]
  exact Finset.sum_congr rfl fun n hn => by rw [he n hn]

end Stages

end Cert.Pool

end
-- ==== Proof.KerSums.lean ====
module

public import proofs.«01_k».proof.Proof.RefPool
public import proofs.«01_k».proof.Proof.Sums
public import Idealize.ShloMosaic.Lib.ValueLayout
public import Idealize.ShloMosaic.Lib.IdealHost

@[expose] public section

/-!
# What a call adds up over its blocks of rows

A call keeps, per graph, the sum of the features weighted by `exp (score)` and the sum of the weights.  Each block adds
its own rows.  Here: what one block adds at one element, the sums after all blocks, and their quotient as one expression
over all the nodes of a graph.
-/

noncomputable section

namespace Cert.KernelIdeal.Pool

open Idealize.ShloMosaic Idealize.ShloMosaic.ValueIdx Idealize.ShloMosaic.Routing
open Cert.KernelIdeal Cert.KernelIdeal.Gen Cert.Pool
open scoped BigOperators

variable {N : ℕ}

/-- A row's score, from the operands as a block holds them. -/
def rowScore (x : FVec Ideal (shape2 N 128) .f32) (W1 : FVec Ideal (shape2 128 64) .f32) (b1 w2 : FVec Ideal (shape2 1 64) .f32)
    (r : Fin N) : EReal :=
  ∑ k : Fin 64, Ideal.tanh (∑ j : Fin 128, x (ix2 r j) * W1 (ix2 j k) + b1 (ix2 0 k)) * w2 (ix2 0 k)

/-- The shape relations of a block's operations. -/
structure BlockShapes (N : ℕ) : Prop where
  bias : (shape2 1 64).Broadcasts (shape2 N 64)
  row : (shape3 1 1 N).ShapeCasts (shape2 1 N)
  rows : (shape2 1 N).Broadcasts (shape2 256 N)
  iota : (shape2 256 N).Iotas .tc 32 [0]
  cols : (shape2 N 1).Broadcasts (shape2 N 128)
  out : (shape2 256 1).Broadcasts (shape2 256 128)
  self64 : (shape2 1 64).ShapeCasts (shape2 1 64)
  selfNum : (shape2 256 128).ShapeCasts (shape2 256 128)
  selfDen : (shape2 256 1).ShapeCasts (shape2 256 1)

section Block

variable (H : BlockShapes N) (x : FVec Ideal (shape2 N 128) .f32) (w : IVec (shape3 1 1 N) 32)
  (W1 : FVec Ideal (shape2 128 64) .f32) (b1 w2 : FVec Ideal (shape2 1 64) .f32)

/-- The weights of a block's rows. -/
def blockWt : FVec Ideal (shape2 N 1) .f32 :=
  exp (matmul (DotDims.transposedRhs N 64 1) none
    (tanh (addf (matmul (DotDims.plain N 128 64) none x W1 (constant (shape2 N 64) .f32 0x00000000#32))
      (broadcastTo (shape2 N 64) (shapeCast (shape2 1 64) b1 H.self64) H.bias)))
    (shapeCast (shape2 1 64) w2 H.self64) (constant (shape2 N 1) .f32 0x00000000#32))

/-- Which rows belong to which graph, as ones and zeros. -/
def blockMask : FVec Ideal (shape2 256 N) .f32 :=
  select (cmpi .eq (broadcastTo (shape2 256 N) (shapeCast (shape2 1 N) w H.row) H.rows) (iota .tc (shape2 256 N) 32 [0] H.iota))
    (broadcast (shape2 256 N) (Scalar.ofBits .f32 0x3F800000#32)) (broadcast (shape2 256 N) (Scalar.ofBits .f32 0x00000000#32))

/-- The weighted sums with a block added. -/
def blockNum (d : FVec Ideal (shape2 256 128) .f32) : FVec Ideal (shape2 256 128) .f32 :=
  shapeCast (shape2 256 128) (addf d (matmul (DotDims.plain 256 N 128) none (blockMask H w)
    (mulf x (broadcastTo (shape2 N 128) (blockWt H x W1 b1 w2) H.cols)) (constant (shape2 256 128) .f32 0x00000000#32))) H.selfNum

/-- The sums of the weights with a block added. -/
def blockDen (e : FVec Ideal (shape2 N 1) .f32) (k : FVec Ideal (shape2 256 N) .f32) (d z : FVec Ideal (shape2 256 1) .f32) :
    FVec Ideal (shape2 256 1) .f32 :=
  shapeCast (shape2 256 1) (addf d (matmul (DotDims.plain 256 N 1) none k e z)) H.selfDen

/-- The quotient. -/
def blockOut (den : FVec Ideal (shape2 256 1) .f32) (num : FVec Ideal (shape2 256 128) .f32) : FVec Ideal (shape2 256 128) .f32 :=
  divf num (broadcastTo (shape2 256 128) (select (cmpf .ogt den (broadcast (shape2 256 1) (Scalar.ofBits .f32 0x00000000#32))) den
    (broadcast (shape2 256 1) (Scalar.ofBits .f32 0x3F800000#32))) H.out)

/-- An elementwise `exp`, at one element. -/
theorem exp_at {s : Shape} (a : FVec Ideal s .f32) (i : s.Idx) : exp a i = Ideal.exp (a i) := rfl
/-- An elementwise `tanh`, at one element. -/
theorem tanh_at {s : Shape} (a : FVec Ideal s .f32) (i : s.Idx) : tanh a i = Ideal.tanh (a i) := rfl
/-- An elementwise quotient, at one element. -/
theorem divf_at {s : Shape} (a b : FVec Ideal s .f32) (i : s.Idx) : divf a b i = Ideal.div (a i) (b i) := rfl
/-- The zero constant holds 0. -/
theorem zero_at {s : Shape} (i : s.Idx) : (constant s .f32 0x00000000#32 : FVec Ideal s .f32) i = (0 : EReal) := Ideal.ofBits_zero_f32
/-- The zero word repeated holds 0. -/
theorem bzero_at {s : Shape} (i : s.Idx) : (broadcast s (Scalar.ofBits .f32 0x00000000#32 : Ideal .f32)) i = (0 : EReal) := Ideal.ofBits_zero_f32
/-- The word of one repeated holds 1. -/
theorem bone_at {s : Shape} (i : s.Idx) : (broadcast s (Scalar.ofBits .f32 0x3F800000#32 : Ideal .f32)) i = (1 : EReal) := Ideal.ofBits_one_f32

/-- A column spread over the columns of a matrix. -/
theorem colTo {α : Type} {a b : ℕ} (ha : a ≠ 1) (v : (shape2 a 1).Idx → α) (h : (shape2 a 1).Broadcasts (shape2 a b)) (p : Fin a) (c : Fin b) :
    broadcastTo (shape2 a b) v h (ix2 p c) = v (ix2 p (0 : Fin 1)) := by
  refine broadcastTo_apply v h (ix2 p c) (ix2 p (0 : Fin 1)) fun ax => ?_
  match ax with
  | ⟨0, _⟩ => show p.val = if a = 1 then 0 else p.val; rw [if_neg ha]
  | ⟨1, _⟩ => show 0 = if (1 : ℕ) = 1 then 0 else c.val; rw [if_pos rfl]

/-- The weight of a block's row is `exp` of its score. -/
theorem blockWt_apply (r : Fin N) : blockWt H x W1 b1 w2 (ix2 r 0) = Ideal.exp (rowScore x W1 b1 w2 r) := by
  unfold blockWt
  rw [exp_at]
  congr 1
  refine (Ideal.matmul_transposedRhs_apply _ _ _ _ _ _).trans ?_
  rw [zero_at, zero_add]
  refine Finset.sum_congr rfl fun k _ => ?_
  rw [tanh_at, addf_at, shapeCast_self, shapeCast_self, broadcastTo_1b_ab_apply]
  congr 3
  refine (Ideal.matmul_plain_apply _ _ _ _ _ _).trans ?_
  rw [zero_at, zero_add]

/-- The mask is 1 where the row's word is the graph's number and 0 elsewhere. -/
theorem blockMask_apply (g : Fin 256) (r : Fin N) :
    blockMask H w (ix2 g r) = if (w (ix3 0 0 r)).toInt = (g.val : Int) then (1 : EReal) else 0 := by
  unfold blockMask
  rw [WordCmp.select_at, WordCmp.cmpi_at, broadcastTo_1b_ab_apply, shapeCast_1ab_ab_apply, WordCmp.iota_at, bone_at, bzero_at]
  rw [WordCmp.cmpi_eq_eq, WordCmp.select_decide]
  have e : ([0] : List (Fin (shape2 256 N).rank)).foldl (fun n a => n * (shape2 256 N).size a + ((ix2 g r : (shape2 256 N).Idx) a).val) 0 = g.val := by
    show 0 * _ + g.val = g.val
    omega
  rw [e]
  simp only [word_eq_iff]

/-- Multiplying by a mask keeps the value or makes it 0. -/
theorem mask_mul (p : Prop) [Decidable p] (v : EReal) : (if p then (1 : EReal) else 0) * v = if p then v else 0 := by
  split <;> simp

/-- A block adds its rows' weighted features to the sums of their graphs. -/
theorem blockNum_apply (d : FVec Ideal (shape2 256 128) .f32) (hN : N ≠ 1) (g : Fin 256) (c : Fin 128) :
    blockNum H x w W1 b1 w2 d (ix2 g c) =
      d (ix2 g c) + ∑ r : Fin N, if (w (ix3 0 0 r)).toInt = (g.val : Int) then x (ix2 r c) * Ideal.exp (rowScore x W1 b1 w2 r) else (0 : EReal) := by
  unfold blockNum
  rw [shapeCast_self, addf_at]
  congr 1
  refine (Ideal.matmul_plain_apply _ _ _ _ _ _).trans ?_
  rw [zero_at, zero_add]
  refine Finset.sum_congr rfl fun r _ => ?_
  rw [blockMask_apply, mulf_at, colTo hN, blockWt_apply, mask_mul]

/-- A block adds its rows' weights to the sums of their graphs. -/
theorem blockDen_apply (d : FVec Ideal (shape2 256 1) .f32) (g : Fin 256) :
    blockDen H (blockWt H x W1 b1 w2) (blockMask H w) d (constant (shape2 256 1) .f32 0x00000000#32) (ix2 g 0) =
      d (ix2 g 0) + ∑ r : Fin N, if (w (ix3 0 0 r)).toInt = (g.val : Int) then Ideal.exp (rowScore x W1 b1 w2 r) else (0 : EReal) := by
  unfold blockDen
  rw [shapeCast_self, addf_at]
  congr 1
  refine (Ideal.matmul_plain_apply _ _ _ _ _ _).trans ?_
  rw [zero_at, zero_add]
  refine Finset.sum_congr rfl fun r _ => ?_
  rw [blockMask_apply, blockWt_apply, mask_mul]

/-- The quotient at one element. -/
theorem blockOut_apply (den : FVec Ideal (shape2 256 1) .f32) (num : FVec Ideal (shape2 256 128) .f32) (g : Fin 256) (c : Fin 128) :
    blockOut H den num (ix2 g c) = Ideal.div (num (ix2 g c)) (safeDen (den (ix2 g 0))) := by
  unfold blockOut
  rw [divf_at, colTo (by decide), WordCmp.select_at, cmpf_at, bzero_at, bone_at, cmp_ogt, WordCmp.select_decide]
  rfl

end Block

/-- A call's payloads are the operations above. -/
structure Parts.IsBlock (P : Parts Ideal N) (H : BlockShapes N) : Prop where
  big : N ≠ 1
  num : ∀ x W1 b1 w2 w d, P.num x W1 b1 w2 w d = blockNum H x w W1 b1 w2 d
  wt : ∀ x W1 b1 w2, P.wt x W1 b1 w2 = blockWt H x W1 b1 w2
  mask : ∀ w, P.mask w = blockMask H w
  den : ∀ e k d z, P.den e k d z = blockDen H e k d z
  out : ∀ d n, P.out d n = blockOut H d n
  num₀ : P.num₀ = shapeCast (shape2 256 128) (broadcast (shape2 256 128) (Scalar.ofBits .f32 0x00000000#32)) H.selfNum
  den₀ : P.den₀ = shapeCast (shape2 256 1) (broadcast (shape2 256 1) (Scalar.ofBits .f32 0x00000000#32)) H.selfDen

/-- Adding one element to a sum over the blocks before it. -/
theorem sum_lt_succ {n : ℕ} (f : Fin n → EReal) (k : ℕ) (hk : k < n) :
    ∑ t ∈ Finset.univ.filter (fun t : Fin n => t.val < k + 1), f t = ∑ t ∈ Finset.univ.filter (fun t : Fin n => t.val < k), f t + f ⟨k, hk⟩ := by
  have e : Finset.univ.filter (fun t : Fin n => t.val < k + 1) = insert ⟨k, hk⟩ (Finset.univ.filter (fun t : Fin n => t.val < k)) := by
    ext t
    simp only [Finset.mem_filter, Finset.mem_univ, true_and, Finset.mem_insert, Fin.ext_iff]
    omega
  rw [e, Finset.sum_insert (by simp), add_comm]

/-- A sum over blocks and rows is a sum over all nodes. -/
theorem sum_blocks {n M : ℕ} (h : n * N = M) (hlt : ∀ (t : Fin n) (r : Fin N), t.val * N + r.val < M) (f : Fin M → EReal) :
    ∑ t : Fin n, ∑ r : Fin N, f ⟨t.val * N + r.val, hlt t r⟩ = ∑ i : Fin M, f i := by
  subst h
  rw [← Fintype.sum_prod_type', ← Equiv.sum_comp finProdFinEquiv f]
  refine Finset.sum_congr rfl fun p _ => congrArg f (Fin.ext ?_)
  show p.1.val * N + p.2.val = p.2.val + N * p.1.val
  rw [Nat.mul_comm, Nat.add_comm]

section Total

variable {P : Parts Ideal N} {H : BlockShapes N} (hP : P.IsBlock H) {n M : ℕ}
  (xs : Fin n → Vec Ideal ⟨2, ![N, 128]⟩ .f32) (ws : Fin n → Vec Ideal ⟨3, ![1, 1, N]⟩ .i32)
  (W1s : Fin n → Vec Ideal S128x64 .f32) (b1s w2s : Fin n → Vec Ideal S1x64 .f32)

include hP in
/-- The two sums after `k` blocks, at one element, as sums over the rows of those blocks. -/
theorem acc_apply (g : Fin 256) (k : ℕ) (hk : k ≤ n) :
    (∀ c : Fin 128, (P.acc xs ws W1s b1s w2s k).1 (ix2 g c) =
      ∑ t ∈ Finset.univ.filter (fun t : Fin n => t.val < k), ∑ r : Fin N,
        if (ws t (ix3 0 0 r)).toInt = (g.val : Int) then xs t (ix2 r c) * Ideal.exp (rowScore (xs t) (W1s t) (b1s t) (w2s t) r) else (0 : EReal)) ∧
    (P.acc xs ws W1s b1s w2s k).2 (ix2 g 0) =
      ∑ t ∈ Finset.univ.filter (fun t : Fin n => t.val < k), ∑ r : Fin N,
        if (ws t (ix3 0 0 r)).toInt = (g.val : Int) then Ideal.exp (rowScore (xs t) (W1s t) (b1s t) (w2s t) r) else (0 : EReal) := by
  induction k with
  | zero =>
    have e : Finset.univ.filter (fun t : Fin n => t.val < 0) = ∅ := by simp
    rw [e]
    refine ⟨fun c => ?_, ?_⟩
    · show P.num₀ (ix2 g c) = _
      rw [hP.num₀, shapeCast_self, bzero_at]
      rfl
    · show P.den₀ (ix2 g 0) = _
      rw [hP.den₀, shapeCast_self, bzero_at]
      rfl
  | succ k ih =>
    obtain ⟨ih1, ih2⟩ := ih (by omega)
    rw [P.acc_succ xs ws W1s b1s w2s ⟨k, hk⟩]
    refine ⟨fun c => ?_, ?_⟩
    · rw [sum_lt_succ _ k hk, ← ih1 c]
      show P.num _ _ _ _ _ _ (ix2 g c) = _
      rw [hP.num]
      exact blockNum_apply H _ _ _ _ _ _ hP.big g c
    · rw [sum_lt_succ _ k hk, ← ih2]
      show P.den (P.wt _ _ _ _) (P.mask _) _ _ (ix2 g 0) = _
      rw [hP.wt, hP.mask, hP.den]
      exact blockDen_apply H _ _ _ _ _ _ g

/-- A call's result: for each graph the weighted sum of its nodes' features over the sum of their weights. -/
theorem total (hP : P.IsBlock H) (hM : n * N = M) (hlt : ∀ (t : Fin n) (r : Fin N), t.val * N + r.val < M)
    (x : FVec Ideal (shape2 M 128) .f32) (batch : IVec (shape1 M) 32) (W1 : FVec Ideal (shape2 128 64) .f32)
    (b1 : FVec Ideal (shape1 64) .f32) (w2 : FVec Ideal (shape2 64 1) .f32)
    (hx : ∀ t r j, xs t (ix2 r j) = x (ix2 ⟨t.val * N + r.val, hlt t r⟩ j))
    (hw : ∀ t r, ws t (ix3 0 0 r) = batch (ix1 ⟨t.val * N + r.val, hlt t r⟩))
    (hW : ∀ t, W1s t = W1) (hb : ∀ t k, b1s t (ix2 0 k) = b1 (ix1 k)) (h2 : ∀ t k, w2s t (ix2 0 k) = w2 (ix2 k 0))
    (g : Fin 256) (c : Fin 128) :
    P.out (P.acc xs ws W1s b1s w2s n).2 (P.acc xs ws W1s b1s w2s n).1 (ix2 g c) =
      Ideal.div (∑ i ∈ members batch g, x (ix2 i c) * Ideal.exp (score x W1 b1 w2 i))
        (safeDen (∑ i ∈ members batch g, Ideal.exp (score x W1 b1 w2 i))) := by
  have all : Finset.univ.filter (fun t : Fin n => t.val < n) = Finset.univ := Finset.filter_true_of_mem fun t _ => t.isLt
  obtain ⟨h1, h2'⟩ := acc_apply hP xs ws W1s b1s w2s g n le_rfl
  have hs : ∀ t r, rowScore (xs t) (W1s t) (b1s t) (w2s t) r = score x W1 b1 w2 ⟨t.val * N + r.val, hlt t r⟩ := fun t r => by
    unfold rowScore score
    refine Finset.sum_congr rfl fun k _ => ?_
    rw [hb, h2, hW]
    simp only [hx]
  rw [hP.out, blockOut_apply, h1 c, h2', all]
  simp only [hs, hx, hw]
  unfold members
  rw [Finset.sum_filter, Finset.sum_filter]
  rw [sum_blocks hM hlt (fun i => if (batch (ix1 i)).toInt = (g.val : Int) then x (ix2 i c) * Ideal.exp (score x W1 b1 w2 i) else 0),
    sum_blocks hM hlt (fun i => if (batch (ix1 i)).toInt = (g.val : Int) then Ideal.exp (score x W1 b1 w2 i) else 0)]

end Total

end Cert.KernelIdeal.Pool
end
-- ==== Proof.Blocks.lean ====
module

public import proofs.«01_k».proof.Proof.KerSums
public import proofs.«01_k».proof.Proof.Final

@[expose] public section

/-!
# Where each block lies in its array

Block `t` of the features and of the graph words is the `t`-th run of rows of its array; the weights are whole at every
grid point.  With these, each call's result is the quotient of two sums over all the nodes of a graph.
-/

set_option maxRecDepth 16384

noncomputable section

namespace Cert.KernelIdeal.Pool

open Idealize.ShloMosaic Idealize.ShloMosaic.TcCoe Idealize.ShloMosaic.ValueIdx Idealize.ShloMosaic.Routing
open Idealize.ShloMosaic.Pipeline (Dat Cfg Window)
open Cert.KernelIdeal Cert.KernelIdeal.Gen Cert.Pool
open scoped BigOperators

/-- Where block `t` of `N` rows lies in an array of `M` rows: `e` sends its row `r` to row `t * N + r`. -/
theorem rows_emb {N M C : ℕ} (e : (shape2 N C).Idx → (shape2 M C).Idx) (r : Fin N) (j : Fin C) (t i0 i1 : ℕ) (h0 : i0 = t) (h1 : i1 = 0)
    (hlt : t * N + r.val < M) (e0 : (e (ix2 r j) 0).val = i0 * N + 1 * r.val) (e1 : (e (ix2 r j) 1).val = i1 * C + 1 * j.val) :
    e (ix2 r j) = ix2 ⟨t * N + r.val, hlt⟩ j := by
  subst h0 h1
  funext a; apply Fin.ext
  match a with
  | ⟨0, _⟩ => show (e (ix2 r j) 0).val = i0 * N + r.val; omega
  | ⟨1, _⟩ => show (e (ix2 r j) 1).val = j.val; omega

/-- Where block `t` of the graph words lies in the array of all blocks: at its row `t`. -/
theorem words_emb {N n : ℕ} (e : (shape3 1 1 N).Idx → (shape3 n 1 N).Idx) (r : Fin N) (t : Fin n) (i0 i1 i2 : ℕ) (h0 : i0 = t.val) (h1 : i1 = 0) (h2 : i2 = 0)
    (e0 : (e (ix3 0 0 r) 0).val = i0 * 1 + 1 * 0) (e1 : (e (ix3 0 0 r) 1).val = i1 * 1 + 1 * 0) (e2 : (e (ix3 0 0 r) 2).val = i2 * N + 1 * r.val) :
    e (ix3 0 0 r) = ix3 t 0 r := by
  subst h0 h1 h2
  funext a; apply Fin.ext
  match a with
  | ⟨0, _⟩ => show (e (ix3 0 0 r) 0).val = t.val; omega
  | ⟨1, _⟩ => show (e (ix3 0 0 r) 1).val = 0; omega
  | ⟨2, _⟩ => show (e (ix3 0 0 r) 2).val = r.val; omega

/-- A call's result when it reads the features by rows, the graph words laid out as `n` blocks, and the bias and the
    second weights laid out as one row each. -/
theorem total_laid_out {N n k M : ℕ} {P : Parts Ideal N} {H : BlockShapes N} (hP : P.IsBlock H) (hk : k = n) (hM : n * N = M)
    (xs : Fin k → Vec Ideal ⟨2, ![N, 128]⟩ .f32) (ws : Fin k → Vec Ideal ⟨3, ![1, 1, N]⟩ .i32)
    (W1s : Fin k → Vec Ideal S128x64 .f32) (b1s w2s : Fin k → Vec Ideal S1x64 .f32)
    (x : FVec Ideal (shape2 M 128) .f32) (batch : IVec (shape1 M) 32) (W1 : FVec Ideal (shape2 128 64) .f32)
    (b1 : FVec Ideal (shape1 64) .f32) (w2 : FVec Ideal (shape2 64 1) .f32)
    (hc : (shape1 M).ShapeCasts (shape3 n 1 N))
    (hx : ∀ t r j hlt, xs t (ix2 r j) = x (ix2 ⟨t.val * N + r.val, hlt⟩ j))
    (hw : ∀ t r, ws t (ix3 0 0 r) = shapeCast (shape3 n 1 N) batch hc (ix3 (Fin.cast hk t) 0 r))
    (hW : ∀ t, W1s t = W1) (hb : ∀ t, b1s t = shapeCast S1x64 b1 shapeCasts_S64_S1x64)
    (h2 : ∀ t, w2s t = shapeCast S1x64 w2 shapeCasts_S64x1_S1x64) (g : Fin 256) (d : Fin 128) :
    P.out (P.acc xs ws W1s b1s w2s k).2 (P.acc xs ws W1s b1s w2s k).1 (ix2 g d) =
      Ideal.div (∑ i ∈ members batch g, x (ix2 i d) * Ideal.exp (score x W1 b1 w2 i))
        (safeDen (∑ i ∈ members batch g, Ideal.exp (score x W1 b1 w2 i))) := by
  subst hk
  have hlt : ∀ (t : Fin k) (r : Fin N), t.val * N + r.val < M := fun t r => by
    calc t.val * N + r.val < t.val * N + N := Nat.add_lt_add_left r.isLt _
      _ = (t.val + 1) * N := (Nat.succ_mul _ _).symm
      _ ≤ k * N := Nat.mul_le_mul_right _ t.isLt
      _ = M := hM
  refine total xs ws W1s b1s w2s hP hM hlt x batch W1 b1 w2 (fun t r j => hx t r j _) (fun t r => ?_) hW (fun t j => ?_) (fun t j => ?_) g d
  · refine (hw t r).trans (cast13 batch _ _ _ _ _ ?_)
    show t.val * N + r.val = (t.val * 1 + 0) * N + r.val
    rw [Nat.mul_one, Nat.add_zero]
  · rw [hb t]
    refine cast12 b1 _ _ _ _ ?_
    show j.val = 0 * 64 + j.val
    omega
  · rw [h2 t]
    refine shapeCast_apply w2 _ _ _ ?_
    rw [Shape.rowMajor_val_two, Shape.rowMajor_val_two]
    show j.val * 1 + 0 = 0 * 64 + j.val
    omega

variable (V : Dev nD → Valuation τ sig (Elt Ideal))

/-- The shape relations of the first call's block. -/
theorem shapes0 : BlockShapes 25000 :=
  ⟨broadcasts_S1x64_S25000x64, shapeCasts_S1x1x25000_S1x25000, broadcasts_S1x25000_S256x25000, iota_S256x25000_d0_w32,
    broadcasts_S25000x1_S25000x128, broadcasts_S256x1_S256x128, shapeCasts_S1x64_S1x64, shapeCasts_S256x128_S256x128, shapeCasts_S256x1_S256x1⟩

/-- The shape relations of the second call's block. -/
theorem shapes1 : BlockShapes 10000 :=
  ⟨broadcasts_S1x64_S10000x64, shapeCasts_S1x1x10000_S1x10000, broadcasts_S1x10000_S256x10000, iota_S256x10000_d0_w32,
    broadcasts_S10000x1_S10000x128, broadcasts_S256x1_S256x128, shapeCasts_S1x64_S1x64, shapeCasts_S256x128_S256x128, shapeCasts_S256x1_S256x1⟩

/-- The first call's payloads are the common block's. -/
theorem isBlock0 : (parts0 (F := Ideal)).IsBlock shapes0 :=
  ⟨by decide, fun _ _ _ _ _ _ => rfl, fun _ _ _ _ => rfl, fun _ => rfl, fun _ _ _ _ => rfl, fun _ _ => rfl, rfl, rfl⟩

/-- The second call's payloads are the common block's. -/
theorem isBlock1 : (parts1 (F := Ideal)).IsBlock shapes1 :=
  ⟨by decide, fun _ _ _ _ _ _ => rfl, fun _ _ _ _ => rfl, fun _ => rfl, fun _ _ _ _ => rfl, fun _ _ => rfl, rfl, rfl⟩

/-- The block index of the features at each point of the first call. -/
theorem idx0_0 : ∀ t : Fin cfg0.N, win0_0.index t (0 : Fin 2) = t.val ∧ win0_0.index t (1 : Fin 2) = 0 :=
  (by decide +kernel : ∀ t : Fin grid0.N, _)
/-- The block index of the graph words at each point of the first call. -/
theorem idx0_1 : ∀ t : Fin cfg0.N, win0_1.index t (0 : Fin 3) = t.val ∧ win0_1.index t (1 : Fin 3) = 0 ∧ win0_1.index t (2 : Fin 3) = 0 :=
  (by decide +kernel : ∀ t : Fin grid0.N, _)
/-- The block index of the first weights at each point of the first call. -/
theorem idx0_2 : ∀ t : Fin cfg0.N, win0_2.index t (0 : Fin 2) = 0 ∧ win0_2.index t (1 : Fin 2) = 0 :=
  (by decide +kernel : ∀ t : Fin grid0.N, _)
/-- The block index of the bias at each point of the first call. -/
theorem idx0_3 : ∀ t : Fin cfg0.N, win0_3.index t (0 : Fin 2) = 0 ∧ win0_3.index t (1 : Fin 2) = 0 :=
  (by decide +kernel : ∀ t : Fin grid0.N, _)
/-- The block index of the second weights at each point of the first call. -/
theorem idx0_4 : ∀ t : Fin cfg0.N, win0_4.index t (0 : Fin 2) = 0 ∧ win0_4.index t (1 : Fin 2) = 0 :=
  (by decide +kernel : ∀ t : Fin grid0.N, _)

/-- The first call's result. -/
theorem out0_apply (c : Dev nD) (x : FVec Ideal (shape2 100000 128) .f32) (batch : IVec (shape1 100000) 32)
    (W1 : FVec Ideal (shape2 128 64) .f32) (b1 : FVec Ideal (shape1 64) .f32) (w2 : FVec Ideal (shape2 64 1) .f32)
    (hx : V c main_arg0 = x) (hw : V c main_v0 = shapeCast S4x1x25000 batch shapeCasts_S100000_S4x1x25000)
    (hW : V c main_arg4 = W1) (hb : V c main_v1 = shapeCast S1x64 b1 shapeCasts_S64_S1x64)
    (h2 : V c main_v2 = shapeCast S1x64 w2 shapeCasts_S64x1_S1x64) (g : Fin 256) (d : Fin 128) :
    out0 V c (ix2 g d) = Ideal.div (∑ i ∈ members batch g, x (ix2 i d) * Ideal.exp (score x W1 b1 w2 i))
      (safeDen (∑ i ∈ members batch g, Ideal.exp (score x W1 b1 w2 i))) :=
  total_laid_out isBlock0 N_0 rfl (blk0 V c 0) (blk0 V c 1) (blk0 V c 2) (blk0 V c 3) (blk0 V c 4) x batch W1 b1 w2 shapeCasts_S100000_S4x1x25000
    (fun t r j hlt => (congrArg (V c main_arg0 : FVec Ideal (shape2 100000 128) .f32)
      (rows_emb ((cfg0.win 0).blk t).view.emb r j t.val _ _ (idx0_0 t).1 (idx0_0 t).2 hlt rfl rfl)).trans (congrFun hx _))
    (fun t r => (congrArg (V c main_v0 : IVec (shape3 4 1 25000) 32)
      (words_emb ((cfg0.win 1).blk t).view.emb r (Fin.cast N_0 t) _ _ _ (idx0_1 t).1 (idx0_1 t).2.1 (idx0_1 t).2.2 rfl rfl rfl)).trans (congrFun hw _))
    (fun t => (funext fun y => congrArg (V c main_arg4 : FVec Ideal (shape2 128 64) .f32)
      (whole_emb ((cfg0.win 2).blk t).view.emb y _ _ (idx0_2 t).1 (idx0_2 t).2 rfl rfl)).trans hW)
    (fun t => (funext fun y => congrArg (V c main_v1 : FVec Ideal (shape2 1 64) .f32)
      (whole_emb ((cfg0.win 3).blk t).view.emb y _ _ (idx0_3 t).1 (idx0_3 t).2 rfl rfl)).trans hb)
    (fun t => (funext fun y => congrArg (V c main_v2 : FVec Ideal (shape2 1 64) .f32)
      (whole_emb ((cfg0.win 4).blk t).view.emb y _ _ (idx0_4 t).1 (idx0_4 t).2 rfl rfl)).trans h2)
    g d

/-- The block index of the features at each point of the second call. -/
theorem idx1_0 : ∀ t : Fin cfg1.N, win1_0.index t (0 : Fin 2) = t.val ∧ win1_0.index t (1 : Fin 2) = 0 :=
  (by decide +kernel : ∀ t : Fin grid1.N, _)
/-- The block index of the graph words at each point of the second call. -/
theorem idx1_1 : ∀ t : Fin cfg1.N, win1_1.index t (0 : Fin 3) = t.val ∧ win1_1.index t (1 : Fin 3) = 0 ∧ win1_1.index t (2 : Fin 3) = 0 :=
  (by decide +kernel : ∀ t : Fin grid1.N, _)
/-- The block index of the first weights at each point of the second call. -/
theorem idx1_2 : ∀ t : Fin cfg1.N, win1_2.index t (0 : Fin 2) = 0 ∧ win1_2.index t (1 : Fin 2) = 0 :=
  (by decide +kernel : ∀ t : Fin grid1.N, _)
/-- The block index of the bias at each point of the second call. -/
theorem idx1_3 : ∀ t : Fin cfg1.N, win1_3.index t (0 : Fin 2) = 0 ∧ win1_3.index t (1 : Fin 2) = 0 :=
  (by decide +kernel : ∀ t : Fin grid1.N, _)
/-- The block index of the second weights at each point of the second call. -/
theorem idx1_4 : ∀ t : Fin cfg1.N, win1_4.index t (0 : Fin 2) = 0 ∧ win1_4.index t (1 : Fin 2) = 0 :=
  (by decide +kernel : ∀ t : Fin grid1.N, _)

/-- The second call's result. -/
theorem out1_apply (c : Dev nD) (x : FVec Ideal (shape2 50000 128) .f32) (batch : IVec (shape1 50000) 32)
    (W1 : FVec Ideal (shape2 128 64) .f32) (b1 : FVec Ideal (shape1 64) .f32) (w2 : FVec Ideal (shape2 64 1) .f32)
    (hx : V c main_arg1 = x) (hw : V c main_v4 = shapeCast S5x1x10000 batch shapeCasts_S50000_S5x1x10000)
    (hW : V c main_arg4 = W1) (hb : V c main_v5 = shapeCast S1x64 b1 shapeCasts_S64_S1x64)
    (h2 : V c main_v6 = shapeCast S1x64 w2 shapeCasts_S64x1_S1x64) (g : Fin 256) (d : Fin 128) :
    out1 V c (ix2 g d) = Ideal.div (∑ i ∈ members batch g, x (ix2 i d) * Ideal.exp (score x W1 b1 w2 i))
      (safeDen (∑ i ∈ members batch g, Ideal.exp (score x W1 b1 w2 i))) :=
  total_laid_out isBlock1 N_1 rfl (blk1 V c 0) (blk1 V c 1) (blk1 V c 2) (blk1 V c 3) (blk1 V c 4) x batch W1 b1 w2 shapeCasts_S50000_S5x1x10000
    (fun t r j hlt => (congrArg (V c main_arg1 : FVec Ideal (shape2 50000 128) .f32)
      (rows_emb ((cfg1.win 0).blk t).view.emb r j t.val _ _ (idx1_0 t).1 (idx1_0 t).2 hlt rfl rfl)).trans (congrFun hx _))
    (fun t r => (congrArg (V c main_v4 : IVec (shape3 5 1 10000) 32)
      (words_emb ((cfg1.win 1).blk t).view.emb r (Fin.cast N_1 t) _ _ _ (idx1_1 t).1 (idx1_1 t).2.1 (idx1_1 t).2.2 rfl rfl rfl)).trans (congrFun hw _))
    (fun t => (funext fun y => congrArg (V c main_arg4 : FVec Ideal (shape2 128 64) .f32)
      (whole_emb ((cfg1.win 2).blk t).view.emb y _ _ (idx1_2 t).1 (idx1_2 t).2 rfl rfl)).trans hW)
    (fun t => (funext fun y => congrArg (V c main_v5 : FVec Ideal (shape2 1 64) .f32)
      (whole_emb ((cfg1.win 3).blk t).view.emb y _ _ (idx1_3 t).1 (idx1_3 t).2 rfl rfl)).trans hb)
    (fun t => (funext fun y => congrArg (V c main_v6 : FVec Ideal (shape2 1 64) .f32)
      (whole_emb ((cfg1.win 4).blk t).view.emb y _ _ (idx1_4 t).1 (idx1_4 t).2 rfl rfl)).trans h2)
    g d

end Cert.KernelIdeal.Pool
end
-- ==== Proof.HostReads.lean ====
module

public import proofs.«01_k».proof.Proof.Run

@[expose] public section

/-!
# The host operations around the calls

What each call finds in its arrays — the arguments themselves or reshaped — and the mean the last stretch takes.
-/

set_option maxRecDepth 16384

noncomputable section

namespace Cert.KernelIdeal.Pool

open Idealize.ShloMosaic Idealize.ShloMosaic.TcCoe Idealize.ShloMosaic.StableHlo
open Cert.KernelIdeal Cert.KernelIdeal.Gen

variable {F : FTy → Type} [FloatOps F]
variable (m : (ℓ : Loc nD τ sig) → Buf (Elt F) ℓ) (c : Dev nD)

/-- The first call's graph words: the argument, laid out as blocks. -/
theorem V1_v0 : V1 m c main_v0 = shapeCast S4x1x25000 (m ((c : Thread nD τ).loc main_arg2)) shapeCasts_S100000_S4x1x25000 := by
  show after hostOps0 (V0 m c) (Proc.devRef .tc main_v0) = _
  after_results
  rfl
/-- The first call's bias: the argument as one row. -/
theorem V1_v1 : V1 m c main_v1 = shapeCast S1x64 (m ((c : Thread nD τ).loc main_arg5)) shapeCasts_S64_S1x64 := by
  show after hostOps0 (V0 m c) (Proc.devRef .tc main_v1) = _
  after_results
  rfl
/-- The first call's second weights: the argument as one row. -/
theorem V1_v2 : V1 m c main_v2 = shapeCast S1x64 (m ((c : Thread nD τ).loc main_arg6)) shapeCasts_S64x1_S1x64 := by
  show after hostOps0 (V0 m c) (Proc.devRef .tc main_v2) = _
  after_results
  rfl

/-- An argument as the first call finds it. -/
theorem V1_arg (r : Ref sig .tc) (h : r ∉ hostOps0_W) : V1 m c r = m ((c : Thread nD τ).loc r) := V1_of m c r h

/-- An argument as the second host stretch finds it. -/
theorem upd_arg (X) (r : Ref sig .tc) (h : r ∉ hostOps0_W) (h3 : r ≠ main_v3) :
    Function.update (V1 m c) (Proc.devRef .tc main_v3) X (Proc.devRef .tc r) = m ((c : Thread nD τ).loc r) := by
  rw [Function.update_of_ne (devRef_ne_of_ne h3)]
  exact V1_of m c r h

/-- The second call's graph words: the argument, laid out as blocks. -/
theorem mid_v4 : mid m c main_v4 = shapeCast S5x1x10000 (m ((c : Thread nD τ).loc main_arg3)) shapeCasts_S50000_S5x1x10000 := by
  rw [← upd_arg m c (out0 (V1 m) c) main_arg3 (by decide) (by decide)]
  show after hostOps1 (Function.update (V1 m c) (Proc.devRef .tc main_v3) (out0 (V1 m) c)) (Proc.devRef .tc main_v4) = _
  after_results
  rfl
/-- The second call's bias: the argument as one row. -/
theorem mid_v5 : mid m c main_v5 = shapeCast S1x64 (m ((c : Thread nD τ).loc main_arg5)) shapeCasts_S64_S1x64 := by
  rw [← upd_arg m c (out0 (V1 m) c) main_arg5 (by decide) (by decide)]
  show after hostOps1 (Function.update (V1 m c) (Proc.devRef .tc main_v3) (out0 (V1 m) c)) (Proc.devRef .tc main_v5) = _
  after_results
  rfl
/-- The second call's second weights: the argument as one row. -/
theorem mid_v6 : mid m c main_v6 = shapeCast S1x64 (m ((c : Thread nD τ).loc main_arg6)) shapeCasts_S64x1_S1x64 := by
  rw [← upd_arg m c (out0 (V1 m) c) main_arg6 (by decide) (by decide)]
  show after hostOps1 (Function.update (V1 m c) (Proc.devRef .tc main_v3) (out0 (V1 m) c)) (Proc.devRef .tc main_v6) = _
  after_results
  rfl

/-- An argument as the second call finds it. -/
theorem mid_arg (r : Ref sig .tc) (h : r ∉ hostOps0_W) (h1 : r ∉ hostOps1_W) (h3 : r ∉ ([main_v3] : List (Ref sig .tc))) :
    mid m c r = m ((c : Thread nD τ).loc r) := by
  rw [← V3_mid, V3_of m (outs m) c r h1, V2_of m (outs m) c r h3]
  exact V1_of m c r h

/-- The result: the mean of what the two calls left. -/
theorem V5_v10 : V5 m (outs m) c main_v10 =
    mulf (addf (out0 (V1 m) c) (out1 (mid m) c)) (broadcastInDim S256x128 ![] bcast_S_S256x128 (constant (F := F) S_ .f32 0x3F000000#32)) := by
  have e3 : V4 m (outs m) c main_v3 = out0 (V1 m) c := by
    rw [V4_of m (outs m) c main_v3 (by decide), V3_of m (outs m) c main_v3 (by decide), ← outs_v3]
    simp only [V2, Function.update_self]
  have e7 : V4 m (outs m) c main_v7 = out1 (mid m) c := by
    rw [← outs_v7]
    simp only [V4, Function.update_self]
  rw [← e3, ← e7]
  show after hostOps2 (V4 m (outs m) c) (Proc.devRef .tc main_v10) = _
  after_results

end Cert.KernelIdeal.Pool
end
-- ==== Proof.RefValue.lean ====
module

public import proofs.«01_k».proof.Proof.RefPool
public import proofs.«01_k».proof.Proof.Gen.ReferenceIdeal.Run

@[expose] public section

/-!
# The reference's result is half the sum of its two pooled node types

The shape relations of `refPool` at the two node counts, and the reference's result as the mean of the two instances.
-/

set_option maxRecDepth 65536

noncomputable section

namespace Cert.Pool

open Idealize.ShloMosaic Idealize.ShloMosaic.TcCoe Idealize.ShloMosaic.ValueIdx Idealize.ShloMosaic.Routing
open Idealize.SL.Sem
open Cert.ReferenceIdeal Cert.ReferenceIdeal.Gen

attribute [local instance] Cert.ReferenceIdeal.Gen.facts

/-- The shape relations at the first node type's size. -/
theorem shapesA : Shapes 100000 :=
  ⟨bcast_S64_S1x64_1, bcast_S1x64_S100000x64_0_1, bcast_S1_S1x1_1, bcast_S1x1_S100000x1_0_1, shapeCasts_S100000x1_S100000,
    bcast_S100000_S1x100000_1, bcast_S1x100000_S256x100000_0_1, bcast_S256x1_S256x100000_0_1, bcast_S_S256x100000,
    reducesTo_S256x100000_S256_d1, h_S_, bcast_S_S256, bcast_S_S100000, bcast_S100000_S100000x1_0,
    bcast_S100000x1_S100000x128_0_1, bcast_S_S256x128, gather_S256_S100000x1_S100000_n_0_n_n_0_1_1_wf,
    scatter_S256_S100000x1_S100000_n_0_0_1_wf, scatter_S256x128_S100000x1_S100000x128_1_0_0_1_wf⟩

/-- The shape relations at the second node type's size. -/
theorem shapesB : Shapes 50000 :=
  ⟨bcast_S64_S1x64_1, bcast_S1x64_S50000x64_0_1, bcast_S1_S1x1_1, bcast_S1x1_S50000x1_0_1, shapeCasts_S50000x1_S50000,
    bcast_S50000_S1x50000_1, bcast_S1x50000_S256x50000_0_1, bcast_S256x1_S256x50000_0_1, bcast_S_S256x50000,
    reducesTo_S256x50000_S256_d1, h_S_, bcast_S_S256, bcast_S_S50000, bcast_S50000_S50000x1_0,
    bcast_S50000x1_S50000x128_0_1, bcast_S_S256x128, gather_S256_S50000x1_S50000_n_0_n_n_0_1_1_wf,
    scatter_S256_S50000x1_S50000_n_0_0_1_wf, scatter_S256x128_S50000x1_S50000x128_1_0_0_1_wf⟩

/-- The reference's result: the mean of the two pooled node types. -/
theorem ref_value (m : (ℓ : Loc nD τ sig) → Buf (Elt Ideal) ℓ) (c : Dev nD) :
    Cert.ReferenceIdeal.Value.res_main_v104 m c =
      mulf (addf
        (refPool shapesA (m ((c.tc : Thread nD τ).loc main_arg0)) (m ((c.tc : Thread nD τ).loc main_arg2)) (m ((c.tc : Thread nD τ).loc main_arg4))
          (m ((c.tc : Thread nD τ).loc main_arg5)) (m ((c.tc : Thread nD τ).loc main_arg6)) (m ((c.tc : Thread nD τ).loc main_arg7)))
        (refPool shapesB (m ((c.tc : Thread nD τ).loc main_arg1)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))))
        (broadcastInDim S256x128 ![] bcast_S_S256x128 (constant (F := Ideal) S_ .f32 0x3F000000#32)) := by
  unfold Cert.ReferenceIdeal.Value.res_main_v104
  rfl

end Cert.Pool
end
-- ==== Proof.Algebraic.lean ====
module

public import proofs.«01_k».proof.Proof.Frames
public import proofs.«01_k».proof.Proof.Blocks
public import proofs.«01_k».proof.Proof.HostReads
public import proofs.«01_k».proof.Proof.RefValue
public import Idealize.ShloMosaic.Lib.ReduceAll

@[expose] public section

/-!
# The kernel and the reference end with equal results

Both results are half the sum of two pooled node types, and each pooled element is, on either side, the quotient of the
same two sums over the nodes of a graph.  The reference adds the last bias to every score and the kernel does not: a
finite bias cancels in the quotient, which is the one place the precondition is used.
-/

set_option maxRecDepth 16384

noncomputable section

namespace Cert.Proof

open Idealize.ShloMosaic Idealize.ShloMosaic.TcCoe Idealize.ShloMosaic.ValueIdx Idealize.ShloMosaic.Routing Idealize.SL.Sem
open Cert.Pool Cert.KernelIdeal.Pool

attribute [local instance] Cert.Kernel.Gen.facts Cert.KernelIdeal.Gen.facts Cert.ReferenceIdeal.Gen.facts
  Cert.Pre_bias_is_finite.Gen.facts

instance : Subsingleton Cert.Pre_bias_is_finite.S_.Idx := ⟨fun _ _ => funext fun a => a.elim0⟩

/-- The precondition says the last bias is a real number. -/
theorem bias_real {a0 a1 a2 a3 a4 a5 a6} (b2 : FVec Ideal (shape1 1) .f32)
    (h : Cert.Pre_bias_is_finite.fn (F := Ideal) a0 a1 a2 a3 a4 a5 a6 b2 = fun _ => 1#1) : ∃ b : ℝ, b2 (ix1 0) = (b : EReal) := by
  have e := Host.reduce_andi_all _ _ _ _ _ (congrFun h ix0) (ix1 0)
  have e' : BitVec.ofBool (decide (max (b2 (ix1 0)) (-(b2 (ix1 0))) < Ideal.ofBits .f32 0x7F800000#32)) = 1#1 := e
  rw [ofBits_top', WordCmp.ofBool_eq_one_iff, decide_eq_true_eq, max_lt_iff] at e'
  obtain ⟨h1, h2⟩ := e'
  exact ⟨(b2 (ix1 0)).toReal, (EReal.coe_toReal h1.ne (fun hb => by rw [hb] at h2; exact absurd h2 (by simp))).symm⟩

open Cert.KernelIdeal Cert.KernelIdeal.Gen in
/-- The first call's result is the reference's first pooled node type. -/
theorem first_call (m : (ℓ : Loc nD τ sig) → Buf (Elt Ideal) ℓ) (c : Dev nD) (b : ℝ)
    (hb : (m ((c : Thread nD τ).loc main_arg7) : FVec Ideal (shape1 1) .f32) (ix1 0) = (b : EReal)) :
    (out0 (V1 m) c : FVec Ideal (shape2 256 128) .f32) =
      refPool shapesA (m ((c : Thread nD τ).loc main_arg0)) (m ((c : Thread nD τ).loc main_arg2)) (m ((c : Thread nD τ).loc main_arg4))
        (m ((c : Thread nD τ).loc main_arg5)) (m ((c : Thread nD τ).loc main_arg6)) (m ((c : Thread nD τ).loc main_arg7)) := by
  funext i
  obtain ⟨g, d, rfl⟩ : ∃ (g : Fin 256) (d : Fin 128), i = ix2 g d := ⟨_, _, eq_ix2 i⟩
  rw [refPool_apply shapesA _ _ _ _ _ _ b hb g d]
  exact out0_apply (V1 m) c _ _ _ _ _ (V1_arg m c main_arg0 (by decide)) (V1_v0 m c) (V1_arg m c main_arg4 (by decide))
    (V1_v1 m c) (V1_v2 m c) g d

open Cert.KernelIdeal Cert.KernelIdeal.Gen in
/-- The second call's result is the reference's second pooled node type. -/
theorem second_call (m : (ℓ : Loc nD τ sig) → Buf (Elt Ideal) ℓ) (c : Dev nD) (b : ℝ)
    (hb : (m ((c : Thread nD τ).loc main_arg7) : FVec Ideal (shape1 1) .f32) (ix1 0) = (b : EReal)) :
    (out1 (mid m) c : FVec Ideal (shape2 256 128) .f32) =
      refPool shapesB (m ((c : Thread nD τ).loc main_arg1)) (m ((c : Thread nD τ).loc main_arg3)) (m ((c : Thread nD τ).loc main_arg4))
        (m ((c : Thread nD τ).loc main_arg5)) (m ((c : Thread nD τ).loc main_arg6)) (m ((c : Thread nD τ).loc main_arg7)) := by
  funext i
  obtain ⟨g, d, rfl⟩ : ∃ (g : Fin 256) (d : Fin 128), i = ix2 g d := ⟨_, _, eq_ix2 i⟩
  rw [refPool_apply shapesB _ _ _ _ _ _ b hb g d]
  exact out1_apply (mid m) c _ _ _ _ _ (mid_arg m c main_arg1 (by decide) (by decide) (by decide)) (mid_v4 m c)
    (mid_arg m c main_arg4 (by decide) (by decide) (by decide)) (mid_v5 m c) (mid_v6 m c) g d

/-- The kernel and the reference return the same values over the extended reals, if `b2` is finite. -/
theorem algebraic : Cert.algebraic_KernelIdeal_ReferenceIdeal := by
  intro m g m' g' hpre hargs
  refine ⟨fun c => Cert.ReferenceIdeal.Value.res_main_v104 m' c, ?_, ?_⟩
  · refine (θ_run _ _ _).mono (fun r h c => ?_) (Cert.KernelIdeal.Pool.run_read m g)
    obtain ⟨k0, k1, k2, k3, k4, k5, k6, k7, kv⟩ := h.1 c
    refine ⟨kv.trans ?_, k0, k1, k2, k3, k4, k5, k6, k7⟩
    obtain ⟨b, hb⟩ := bias_real _ (hpre c)
    obtain ⟨a0, a1, a2, a3, a4, a5, a6, a7⟩ := hargs c
    refine (V5_v10 m c).trans ?_
    refine Eq.trans ?_ (ref_value m' c).symm
    rw [a0, a1, a2, a3, a4, a5, a6, a7]
    rw [first_call m c b hb, second_call m c b hb]
  · exact Cert.ReferenceIdeal.Value.run m' g'

end Cert.Proof
end
-- ==== Proof.lean ====
module

public import proofs.«01_k».proof.Defs
public import proofs.«01_k».proof.Proof.Frames
public import proofs.«01_k».proof.Proof.Algebraic

@[expose] public section

noncomputable section

namespace Cert.Proof

open Idealize.ShloMosaic Idealize.SL.Sem

/-- Everything claimed, from the frames and the equality of the results. -/
theorem claim : Cert.Claim :=
  ⟨Cert.Kernel.Gen.facts, Cert.KernelIdeal.Gen.facts, Cert.ReferenceIdeal.Gen.facts, Cert.Pre_bias_is_finite.Gen.facts,
    frame_Kernel, frame_KernelIdeal, frame_ReferenceIdeal, trivial, algebraic⟩

end Cert.Proof

end
